-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "mask" .f32 0x7149F2CA#32 ⊤

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x8 : Shape := ⟨2, ![16384, 8]⟩
abbrev S16384 : Shape := ⟨1, ![16384]⟩
abbrev S8x64 : Shape := ⟨2, ![8, 64]⟩
abbrev S64 : Shape := ⟨1, ![64]⟩
abbrev S64x64 : Shape := ⟨2, ![64, 64]⟩
abbrev S128x64 : Shape := ⟨2, ![128, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S16384x8 : S_.BroadcastsInDim S16384x8 (![] : Fin 0 → Fin S16384x8.rank)
  bcast_S_S8x64 : S_.BroadcastsInDim S8x64 (![] : Fin 0 → Fin S8x64.rank)
  bcast_S_S64 : S_.BroadcastsInDim S64 (![] : Fin 0 → Fin S64.rank)
  bcast_S_S64x64 : S_.BroadcastsInDim S64x64 (![] : Fin 0 → Fin S64x64.rank)
  bcast_S_S128x64 : S_.BroadcastsInDim S128x64 (![] : Fin 0 → Fin S128x64.rank)
  bcast_S_S64x32 : S_.BroadcastsInDim S64x32 (![] : Fin 0 → Fin S64x32.rank)
  bcast_S_S32 : S_.BroadcastsInDim S32 (![] : Fin 0 → Fin S32.rank)
  bcast_S_S32x16 : S_.BroadcastsInDim S32x16 (![] : Fin 0 → Fin S32x16.rank)
  bcast_S_S16 : S_.BroadcastsInDim S16 (![] : Fin 0 → Fin S16.rank)

variable [Facts]

def fn_part2 {F : FTy → Type} [FloatOps F] (main_arg13 : FVec F S64 .f32) (main_arg14 : FVec F S64x32 .f32) (main_arg15 : FVec F S32 .f32) (main_arg16 : FVec F S32x16 .f32) (main_arg17 : FVec F S16 .f32) (main_v2 : IVec S16384x8 1) (main_v5 : IVec S8x64 1) (main_v8 : IVec S64 1) (main_v11 : IVec S64x64 1) (main_v14 : IVec S64 1) (main_v17 : IVec S128x64 1) (main_v20 : IVec S64 1) (main_v23 : IVec S128x64 1) (main_v26 : IVec S64 1) (main_v29 : IVec S128x64 1) (main_v32 : IVec S64 1) (main_v35 : IVec S128x64 1) : IVec S16384x8 1 × IVec S8x64 1 × IVec S64 1 × IVec S64x64 1 × IVec S64 1 × IVec S128x64 1 × IVec S64 1 × IVec S128x64 1 × IVec S64 1 × IVec S128x64 1 × IVec S64 1 × IVec S128x64 1 × IVec S64 1 × IVec S64x32 1 × IVec S32 1 × IVec S32x16 1 × IVec S16 1 :=
  let main_v36 : FVec F S64 .f32 := Host.absf main_arg13
  let main_cst_11 : FVec F S_ .f32 := constant S_ .f32 0x7F800000#32
  let main_v37 : FVec F S64 .f32 := broadcastInDim S64 ![] bcast_S_S64 main_cst_11
  let main_v38 : IVec S64 1 := cmpf .olt main_v36 main_v37
  let main_v39 : FVec F S64x32 .f32 := Host.absf main_arg14
  let main_cst_12 : FVec F S_ .f32 := constant S_ .f32 0x7F800000#32
  let main_v40 : FVec F S64x32 .f32 := broadcastInDim S64x32 ![] bcast_S_S64x32 main_cst_12
  let main_v41 : IVec S64x32 1 := cmpf .olt main_v39 main_v40
  let main_v42 : FVec F S32 .f32 := Host.absf main_arg15
  let main_cst_13 : FVec F S_ .f32 := constant S_ .f32 0x7F800000#32
  let main_v43 : FVec F S32 .f32 := broadcastInDim S32 ![] bcast_S_S32 main_cst_13
  let main_v44 : IVec S32 1 := cmpf .olt main_v42 main_v43
  let main_v45 : FVec F S32x16 .f32 := Host.absf main_arg16
  let main_cst_14 : FVec F S_ .f32 := constant S_ .f32 0x7F800000#32
  let main_v46 : FVec F S32x16 .f32 := broadcastInDim S32x16 ![] bcast_S_S32x16 main_cst_14
  let main_v47 : IVec S32x16 1 := cmpf .olt main_v45 main_v46
  let main_v48 : FVec F S16 .f32 := Host.absf main_arg17
  let main_cst_15 : FVec F S_ .f32 := constant S_ .f32 0x7F800000#32
  let main_v49 : FVec F S16 .f32 := broadcastInDim S16 ![] bcast_S_S16 main_cst_15
  let main_v50 : IVec S16 1 := cmpf .olt main_v48 main_v49
  (main_v2, main_v5, main_v8, main_v11, main_v14, main_v17, main_v20, main_v23, main_v26, main_v29, main_v32, main_v35, main_v38, main_v41, main_v44, main_v47, main_v50)

def fn_part1 {F : FTy → Type} [FloatOps F] (main_arg7 : FVec F S64 .f32) (main_arg8 : FVec F S128x64 .f32) (main_arg9 : FVec F S64 .f32) (main_arg10 : FVec F S128x64 .f32) (main_arg11 : FVec F S64 .f32) (main_arg12 : FVec F S128x64 .f32) (main_arg13 : FVec F S64 .f32) (main_arg14 : FVec F S64x32 .f32) (main_arg15 : FVec F S32 .f32) (main_arg16 : FVec F S32x16 .f32) (main_arg17 : FVec F S16 .f32) (main_v2 : IVec S16384x8 1) (main_v5 : IVec S8x64 1) (main_v8 : IVec S64 1) (main_v11 : IVec S64x64 1) (main_v14 : IVec S64 1) (main_v17 : IVec S128x64 1) : IVec S16384x8 1 × IVec S8x64 1 × IVec S64 1 × IVec S64x64 1 × IVec S64 1 × IVec S128x64 1 × IVec S64 1 × IVec S128x64 1 × IVec S64 1 × IVec S128x64 1 × IVec S64 1 × IVec S128x64 1 × IVec S64 1 × IVec S64x32 1 × IVec S32 1 × IVec S32x16 1 × IVec S16 1 :=
  let main_v18 : FVec F S64 .f32 := Host.absf main_arg7
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S128x64 .f32 := Host.absf main_arg8
  let main_cst_6 : FVec F S_ .f32 := constant S_ .f32 0x7F800000#32
  let main_v22 : FVec F S128x64 .f32 := broadcastInDim S128x64 ![] bcast_S_S128x64 main_cst_6
  let main_v23 : IVec S128x64 1 := cmpf .olt main_v21 main_v22
  let main_v24 : FVec F S64 .f32 := Host.absf main_arg9
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S128x64 .f32 := Host.absf main_arg10
  let main_cst_8 : FVec F S_ .f32 := constant S_ .f32 0x7F800000#32
  let main_v28 : FVec F S128x64 .f32 := broadcastInDim S128x64 ![] bcast_S_S128x64 main_cst_8
  let main_v29 : IVec S128x64 1 := cmpf .olt main_v27 main_v28
  let main_v30 : FVec F S64 .f32 := Host.absf main_arg11
  let main_cst_9 : FVec F S_ .f32 := constant S_ .f32 0x7F800000#32
  let main_v31 : FVec F S64 .f32 := broadcastInDim S64 ![] bcast_S_S64 main_cst_9
  let main_v32 : IVec S64 1 := cmpf .olt main_v30 main_v31
  let main_v33 : FVec F S128x64 .f32 := Host.absf main_arg12
  let main_cst_10 : FVec F S_ .f32 := constant S_ .f32 0x7F800000#32
  let main_v34 : FVec F S128x64 .f32 := broadcastInDim S128x64 ![] bcast_S_S128x64 main_cst_10
  let main_v35 : IVec S128x64 1 := cmpf .olt main_v33 main_v34
  fn_part2 (F := F) main_arg13 main_arg14 main_arg15 main_arg16 main_arg17 main_v2 main_v5 main_v8 main_v11 main_v14 main_v17 main_v20 main_v23 main_v26 main_v29 main_v32 main_v35

def fn {F : FTy → Type} [FloatOps F] (main_arg0 : FVec F S16384x8 .f32) (main_arg1 : IVec S16384 32) (main_arg2 : FVec F S8x64 .f32) (main_arg3 : FVec F S64 .f32) (main_arg4 : FVec F S64x64 .f32) (main_arg5 : FVec F S64 .f32) (main_arg6 : FVec F S128x64 .f32) (main_arg7 : FVec F S64 .f32) (main_arg8 : FVec F S128x64 .f32) (main_arg9 : FVec F S64 .f32) (main_arg10 : FVec F S128x64 .f32) (main_arg11 : FVec F S64 .f32) (main_arg12 : FVec F S128x64 .f32) (main_arg13 : FVec F S64 .f32) (main_arg14 : FVec F S64x32 .f32) (main_arg15 : FVec F S32 .f32) (main_arg16 : FVec F S32x16 .f32) (main_arg17 : FVec F S16 .f32) : IVec S16384x8 1 × IVec S8x64 1 × IVec S64 1 × IVec S64x64 1 × IVec S64 1 × IVec S128x64 1 × IVec S64 1 × IVec S128x64 1 × IVec S64 1 × IVec S128x64 1 × IVec S64 1 × IVec S128x64 1 × IVec S64 1 × IVec S64x32 1 × IVec S32 1 × IVec S32x16 1 × IVec S16 1 :=
  let main_v0 : FVec F S16384x8 .f32 := Host.absf main_arg0
  let main_cst : FVec F S_ .f32 := constant S_ .f32 0x7F800000#32
  let main_v1 : FVec F S16384x8 .f32 := broadcastInDim S16384x8 ![] bcast_S_S16384x8 main_cst
  let main_v2 : IVec S16384x8 1 := cmpf .olt main_v0 main_v1
  let main_v3 : FVec F S8x64 .f32 := Host.absf main_arg2
  let main_cst_0 : FVec F S_ .f32 := constant S_ .f32 0x7F800000#32
  let main_v4 : FVec F S8x64 .f32 := broadcastInDim S8x64 ![] bcast_S_S8x64 main_cst_0
  let main_v5 : IVec S8x64 1 := cmpf .olt main_v3 main_v4
  let main_v6 : FVec F S64 .f32 := Host.absf main_arg3
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_v12 : FVec F S64 .f32 := Host.absf main_arg5
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S128x64 .f32 := Host.absf main_arg6
  let main_cst_4 : FVec F S_ .f32 := constant S_ .f32 0x7F800000#32
  let main_v16 : FVec F S128x64 .f32 := broadcastInDim S128x64 ![] bcast_S_S128x64 main_cst_4
  let main_v17 : IVec S128x64 1 := cmpf .olt main_v15 main_v16
  fn_part1 (F := F) main_arg7 main_arg8 main_arg9 main_arg10 main_arg11 main_arg12 main_arg13 main_arg14 main_arg15 main_arg16 main_arg17 main_v2 main_v5 main_v8 main_v11 main_v14 main_v17
-- ==== Kernel.lean ====
abbrev S16384x8 : Shape := ⟨2, ![16384, 8]⟩
abbrev S16384 : Shape := ⟨1, ![16384]⟩
abbrev S8x64 : Shape := ⟨2, ![8, 64]⟩
abbrev S64 : Shape := ⟨1, ![64]⟩
abbrev S64x64 : Shape := ⟨2, ![64, 64]⟩
abbrev S128x64 : Shape := ⟨2, ![128, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S1x64 : Shape := ⟨2, ![1, 64]⟩
abbrev S1x32 : Shape := ⟨2, ![1, 32]⟩
abbrev S1x16 : Shape := ⟨2, ![1, 16]⟩
abbrev S16384x16 : Shape := ⟨2, ![16384, 16]⟩
abbrev S512x8 : Shape := ⟨2, ![512, 8]⟩
abbrev S512x16 : Shape := ⟨2, ![512, 16]⟩
abbrev S512x64 : Shape := ⟨2, ![512, 64]⟩
abbrev S64x512 : Shape := ⟨2, ![64, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S512x192 : Shape := ⟨2, ![512, 192]⟩
abbrev S512x128 : Shape := ⟨2, ![512, 128]⟩
abbrev S512x32 : Shape := ⟨2, ![512, 32]⟩

abbrev nBuf : Space → Nat
  | .hbm => 27
  | .vmem => 20
  | .smem => 0
  | _ => 0

abbrev bufTy : (tb : Table) → Fin (tcTables nBuf tb) → BufTy
  | .hbm, ⟨0, _⟩ => ⟨S16384x8, .f32⟩
  | .hbm, ⟨1, _⟩ => ⟨S16384, .i32⟩
  | .hbm, ⟨2, _⟩ => ⟨S8x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S64x32, .f32⟩
  | .hbm, ⟨15, _⟩ => ⟨S32, .f32⟩
  | .hbm, ⟨16, _⟩ => ⟨S32x16, .f32⟩
  | .hbm, ⟨17, _⟩ => ⟨S16, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x32, .f32⟩
  | .hbm, ⟨25, _⟩ => ⟨S1x16, .f32⟩
  | .hbm, ⟨26, _⟩ => ⟨S16384x16, .f32⟩
  | .local _ .vmem, ⟨0, _⟩ => ⟨S512x8, .f32⟩
  | .local _ .vmem, ⟨1, _⟩ => ⟨S512x8, .f32⟩
  | .local _ .vmem, ⟨2, _⟩ => ⟨S8x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S128x64, .f32⟩
  | .local _ .vmem, ⟨7, _⟩ => ⟨S1x64, .f32⟩
  | .local _ .vmem, ⟨8, _⟩ => ⟨S128x64, .f32⟩
  | .local _ .vmem, ⟨9, _⟩ => ⟨S1x64, .f32⟩
  | .local _ .vmem, ⟨10, _⟩ => ⟨S128x64, .f32⟩
  | .local _ .vmem, ⟨11, _⟩ => ⟨S1x64, .f32⟩
  | .local _ .vmem, ⟨12, _⟩ => ⟨S128x64, .f32⟩
  | .local _ .vmem, ⟨13, _⟩ => ⟨S1x64, .f32⟩
  | .local _ .vmem, ⟨14, _⟩ => ⟨S64x32, .f32⟩
  | .local _ .vmem, ⟨15, _⟩ => ⟨S1x32, .f32⟩
  | .local _ .vmem, ⟨16, _⟩ => ⟨S32x16, .f32⟩
  | .local _ .vmem, ⟨17, _⟩ => ⟨S1x16, .f32⟩
  | .local _ .vmem, ⟨18, _⟩ => ⟨S512x16, .f32⟩
  | .local _ .vmem, ⟨19, _⟩ => ⟨S512x16, .f32⟩
  | _, _ => ⟨S16384x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_31 : BitVec 32 := 0#32
  let c23_i32 : BitVec 32 := 23#32
  let v81 : BitVec 32 := Scalar.addi c0_i32_31 c23_i32
  let c1_i32 : BitVec 32 := 1#32
  ⟨c0_i32_31, v81, c1_i32⟩
@[reducible] def k0_t2_loop : Scf.Loop 32 :=
  let c0_i32_52 : BitVec 32 := 0#32
  let c23_i32_53 : BitVec 32 := 23#32
  let v153 : BitVec 32 := Scalar.addi c0_i32_52 c23_i32_53
  let c1_i32_54 : BitVec 32 := 1#32
  ⟨c0_i32_52, v153, c1_i32_54⟩
@[reducible] def k0_t3_loop : Scf.Loop 32 :=
  let c0_i32_75 : BitVec 32 := 0#32
  let c23_i32_76 : BitVec 32 := 23#32
  let v225 : BitVec 32 := Scalar.addi c0_i32_75 c23_i32_76
  let c1_i32_77 : BitVec 32 := 1#32
  ⟨c0_i32_75, v225, c1_i32_77⟩
@[reducible] def k0_t4_loop : Scf.Loop 32 :=
  let c0_i32_98 : BitVec 32 := 0#32
  let c23_i32_99 : BitVec 32 := 23#32
  let v297 : BitVec 32 := Scalar.addi c0_i32_98 c23_i32_99
  let c1_i32_100 : BitVec 32 := 1#32
  ⟨c0_i32_98, v297, c1_i32_100⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x16 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== KernelIdeal.lean ====
variable {F : FTy → Type} [FloatOps F] [Named F]
def κ : String → Option EReal := fun
  | "mask" => some ⊤
  | _ => none
-- ==== ReferenceIdeal.lean ====
abbrev S16384x8 : Shape := ⟨2, ![16384, 8]⟩
abbrev S16384 : Shape := ⟨1, ![16384]⟩
abbrev S8x64 : Shape := ⟨2, ![8, 64]⟩
abbrev S64 : Shape := ⟨1, ![64]⟩
abbrev S64x64 : Shape := ⟨2, ![64, 64]⟩
abbrev S128x64 : Shape := ⟨2, ![128, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16384x64 : Shape := ⟨2, ![16384, 64]⟩
abbrev S1x64 : Shape := ⟨2, ![1, 64]⟩
abbrev S_ : Shape := ⟨0, ![]⟩
abbrev S32x512x64 : Shape := ⟨3, ![32, 512, 64]⟩
abbrev S32x512 : Shape := ⟨2, ![32, 512]⟩
abbrev S32x512x1 : Shape := ⟨3, ![32, 512, 1]⟩
abbrev S32x1x512 : Shape := ⟨3, ![32, 1, 512]⟩
abbrev S32x512x512 : Shape := ⟨3, ![32, 512, 512]⟩
abbrev S32x512x24 : Shape := ⟨3, ![32, 512, 24]⟩
abbrev S32x512x24x1 : Shape := ⟨4, ![32, 512, 24, 1]⟩
abbrev S32x512x24x64 : Shape := ⟨4, ![32, 512, 24, 64]⟩
abbrev S32x512x1x64 : Shape := ⟨4, ![32, 512, 1, 64]⟩
abbrev S32x512x24x128 : Shape := ⟨4, ![32, 512, 24, 128]⟩
abbrev S1x1x1x64 : Shape := ⟨4, ![1, 1, 1, 64]⟩
abbrev S16384x32 : Shape := ⟨2, ![16384, 32]⟩
abbrev S1x32 : Shape := ⟨2, ![1, 32]⟩
abbrev S16384x16 : Shape := ⟨2, ![16384, 16]⟩
abbrev S1x16 : Shape := ⟨2, ![1, 16]⟩

abbrev nBuf : Space → Nat
  | .hbm => 287
  | .vmem => 0
  | .smem => 0
  | _ => 0

abbrev hbmTy0_0 (i : Nat) : BufTy := match i % 128 with
  | 0 => ⟨S16384x8, .f32⟩
  | 1 => ⟨S16384, .i32⟩
  | 2 => ⟨S8x64, .f32⟩
  | 3 => ⟨S64, .f32⟩
  | 4 => ⟨S64x64, .f32⟩
  | 5 => ⟨S64, .f32⟩
  | 6 => ⟨S128x64, .f32⟩
  | 7 => ⟨S64, .f32⟩
  | 8 => ⟨S128x64, .f32⟩
  | 9 => ⟨S64, .f32⟩
  | 10 => ⟨S128x64, .f32⟩
  | 11 => ⟨S64, .f32⟩
  | 12 => ⟨S128x64, .f32⟩
  | 13 => ⟨S64, .f32⟩
  | 14 => ⟨S64x32, .f32⟩
  | 15 => ⟨S32, .f32⟩
  | 16 => ⟨S32x16, .f32⟩
  | 17 => ⟨S16, .f32⟩
  | 18 => ⟨S16384x64, .f32⟩
  | 19 => ⟨S1x64, .f32⟩
  | 20 => ⟨S16384x64, .f32⟩
  | 21 => ⟨S16384x64, .f32⟩
  | 22 => ⟨S_, .f32⟩
  | 23 => ⟨S16384x64, .f32⟩
  | 24 => ⟨S16384x64, .i1⟩
  | 25 => ⟨S_, .f32⟩
  | 26 => ⟨S16384x64, .f32⟩
  | 27 => ⟨S16384x64, .i1⟩
  | 28 => ⟨S_, .f32⟩
  | 29 => ⟨S_, .f32⟩
  | 30 => ⟨S16384x64, .f32⟩
  | 31 => ⟨S16384x64, .f32⟩
  | 32 => ⟨S16384x64, .f32⟩
  | 33 => ⟨S_, .f32⟩
  | 34 => ⟨S16384x64, .f32⟩
  | 35 => ⟨S16384x64, .f32⟩
  | 36 => ⟨S16384x64, .f32⟩
  | 37 => ⟨S16384x64, .f32⟩
  | 38 => ⟨S1x64, .f32⟩
  | 39 => ⟨S16384x64, .f32⟩
  | 40 => ⟨S16384x64, .f32⟩
  | 41 => ⟨S_, .f32⟩
  | 42 => ⟨S16384x64, .f32⟩
  | 43 => ⟨S16384x64, .i1⟩
  | 44 => ⟨S_, .f32⟩
  | 45 => ⟨S16384x64, .f32⟩
  | 46 => ⟨S16384x64, .i1⟩
  | 47 => ⟨S_, .f32⟩
  | 48 => ⟨S_, .f32⟩
  | 49 => ⟨S16384x64, .f32⟩
  | 50 => ⟨S16384x64, .f32⟩
  | 51 => ⟨S16384x64, .f32⟩
  | 52 => ⟨S_, .f32⟩
  | 53 => ⟨S16384x64, .f32⟩
  | 54 => ⟨S16384x64, .f32⟩
  | 55 => ⟨S16384x64, .f32⟩
  | 56 => ⟨S32x512x64, .f32⟩
  | 57 => ⟨S32x512x64, .f32⟩
  | 58 => ⟨S_, .f32⟩
  | 59 => ⟨S32x512, .f32⟩
  | 60 => ⟨S32x512x1, .f32⟩
  | 61 => ⟨S32x1x512, .f32⟩
  | 62 => ⟨S32x512x512, .f32⟩
  | 63 => ⟨S32x512x512, .f32⟩
  | 64 => ⟨S32x512x512, .f32⟩
  | 65 => ⟨S32x512x512, .f32⟩
  | 66 => ⟨S_, .f32⟩
  | 67 => ⟨S32x512x512, .f32⟩
  | 68 => ⟨S32x512x512, .f32⟩
  | 69 => ⟨S32x512x512, .f32⟩
  | 70 => ⟨S32x512x512, .f32⟩
  | 71 => ⟨S32x512x24, .f32⟩
  | 72 => ⟨S32x512x24, .i32⟩
  | 73 => ⟨S_, .i32⟩
  | 74 => ⟨S32x512x24, .i32⟩
  | 75 => ⟨S32x512x24, .i1⟩
  | 76 => ⟨S_, .i32⟩
  | 77 => ⟨S32x512x24, .i32⟩
  | 78 => ⟨S32x512x24, .i32⟩
  | 79 => ⟨S32x512x24, .i32⟩
  | 80 => ⟨S32x512x24x1, .i32⟩
  | 81 => ⟨S32x512x24x64, .f32⟩
  | 82 => ⟨S32x512x1x64, .f32⟩
  | 83 => ⟨S32x512x24x64, .f32⟩
  | 84 => ⟨S32x512x24x64, .f32⟩
  | 85 => ⟨S32x512x24x128, .f32⟩
  | 86 => ⟨S32x512x24x64, .f32⟩
  | 87 => ⟨S1x1x1x64, .f32⟩
  | 88 => ⟨S32x512x24x64, .f32⟩
  | 89 => ⟨S32x512x24x64, .f32⟩
  | 90 => ⟨S_, .f32⟩
  | 91 => ⟨S32x512x24x64, .f32⟩
  | 92 => ⟨S32x512x24x64, .i1⟩
  | 93 => ⟨S_, .f32⟩
  | 94 => ⟨S32x512x24x64, .f32⟩
  | 95 => ⟨S32x512x24x64, .i1⟩
  | 96 => ⟨S_, .f32⟩
  | 97 => ⟨S_, .f32⟩
  | 98 => ⟨S32x512x24x64, .f32⟩
  | 99 => ⟨S32x512x24x64, .f32⟩
  | 100 => ⟨S32x512x24x64, .f32⟩
  | 101 => ⟨S_, .f32⟩
  | 102 => ⟨S32x512x24x64, .f32⟩
  | 103 => ⟨S32x512x24x64, .f32⟩
  | 104 => ⟨S32x512x24x64, .f32⟩
  | 105 => ⟨S_, .f32⟩
  | 106 => ⟨S32x512x64, .f32⟩
  | 107 => ⟨S16384x64, .f32⟩
  | 108 => ⟨S32x512x64, .f32⟩
  | 109 => ⟨S32x512x64, .f32⟩
  | 110 => ⟨S_, .f32⟩
  | 111 => ⟨S32x512, .f32⟩
  | 112 => ⟨S32x512x1, .f32⟩
  | 113 => ⟨S32x1x512, .f32⟩
  | 114 => ⟨S32x512x512, .f32⟩
  | 115 => ⟨S32x512x512, .f32⟩
  | 116 => ⟨S32x512x512, .f32⟩
  | 117 => ⟨S32x512x512, .f32⟩
  | 118 => ⟨S_, .f32⟩
  | 119 => ⟨S32x512x512, .f32⟩
  | 120 => ⟨S32x512x512, .f32⟩
  | 121 => ⟨S32x512x512, .f32⟩
  | 122 => ⟨S32x512x512, .f32⟩
  | 123 => ⟨S32x512x24, .f32⟩
  | 124 => ⟨S32x512x24, .i32⟩
  | 125 => ⟨S_, .i32⟩
  | 126 => ⟨S32x512x24, .i32⟩
  | 127 => ⟨S32x512x24, .i1⟩
  | _ => ⟨S16384x8, .f32⟩

abbrev hbmTy0_1 (i : Nat) : BufTy := match i % 128 with
  | 0 => ⟨S_, .i32⟩
  | 1 => ⟨S32x512x24, .i32⟩
  | 2 => ⟨S32x512x24, .i32⟩
  | 3 => ⟨S32x512x24, .i32⟩
  | 4 => ⟨S32x512x24x1, .i32⟩
  | 5 => ⟨S32x512x24x64, .f32⟩
  | 6 => ⟨S32x512x1x64, .f32⟩
  | 7 => ⟨S32x512x24x64, .f32⟩
  | 8 => ⟨S32x512x24x64, .f32⟩
  | 9 => ⟨S32x512x24x128, .f32⟩
  | 10 => ⟨S32x512x24x64, .f32⟩
  | 11 => ⟨S1x1x1x64, .f32⟩
  | 12 => ⟨S32x512x24x64, .f32⟩
  | 13 => ⟨S32x512x24x64, .f32⟩
  | 14 => ⟨S_, .f32⟩
  | 15 => ⟨S32x512x24x64, .f32⟩
  | 16 => ⟨S32x512x24x64, .i1⟩
  | 17 => ⟨S_, .f32⟩
  | 18 => ⟨S32x512x24x64, .f32⟩
  | 19 => ⟨S32x512x24x64, .i1⟩
  | 20 => ⟨S_, .f32⟩
  | 21 => ⟨S_, .f32⟩
  | 22 => ⟨S32x512x24x64, .f32⟩
  | 23 => ⟨S32x512x24x64, .f32⟩
  | 24 => ⟨S32x512x24x64, .f32⟩
  | 25 => ⟨S_, .f32⟩
  | 26 => ⟨S32x512x24x64, .f32⟩
  | 27 => ⟨S32x512x24x64, .f32⟩
  | 28 => ⟨S32x512x24x64, .f32⟩
  | 29 => ⟨S_, .f32⟩
  | 30 => ⟨S32x512x64, .f32⟩
  | 31 => ⟨S16384x64, .f32⟩
  | 32 => ⟨S32x512x64, .f32⟩
  | 33 => ⟨S32x512x64, .f32⟩
  | 34 => ⟨S_, .f32⟩
  | 35 => ⟨S32x512, .f32⟩
  | 36 => ⟨S32x512x1, .f32⟩
  | 37 => ⟨S32x1x512, .f32⟩
  | 38 => ⟨S32x512x512, .f32⟩
  | 39 => ⟨S32x512x512, .f32⟩
  | 40 => ⟨S32x512x512, .f32⟩
  | 41 => ⟨S32x512x512, .f32⟩
  | 42 => ⟨S_, .f32⟩
  | 43 => ⟨S32x512x512, .f32⟩
  | 44 => ⟨S32x512x512, .f32⟩
  | 45 => ⟨S32x512x512, .f32⟩
  | 46 => ⟨S32x512x512, .f32⟩
  | 47 => ⟨S32x512x24, .f32⟩
  | 48 => ⟨S32x512x24, .i32⟩
  | 49 => ⟨S_, .i32⟩
  | 50 => ⟨S32x512x24, .i32⟩
  | 51 => ⟨S32x512x24, .i1⟩
  | 52 => ⟨S_, .i32⟩
  | 53 => ⟨S32x512x24, .i32⟩
  | 54 => ⟨S32x512x24, .i32⟩
  | 55 => ⟨S32x512x24, .i32⟩
  | 56 => ⟨S32x512x24x1, .i32⟩
  | 57 => ⟨S32x512x24x64, .f32⟩
  | 58 => ⟨S32x512x1x64, .f32⟩
  | 59 => ⟨S32x512x24x64, .f32⟩
  | 60 => ⟨S32x512x24x64, .f32⟩
  | 61 => ⟨S32x512x24x128, .f32⟩
  | 62 => ⟨S32x512x24x64, .f32⟩
  | 63 => ⟨S1x1x1x64, .f32⟩
  | 64 => ⟨S32x512x24x64, .f32⟩
  | 65 => ⟨S32x512x24x64, .f32⟩
  | 66 => ⟨S_, .f32⟩
  | 67 => ⟨S32x512x24x64, .f32⟩
  | 68 => ⟨S32x512x24x64, .i1⟩
  | 69 => ⟨S_, .f32⟩
  | 70 => ⟨S32x512x24x64, .f32⟩
  | 71 => ⟨S32x512x24x64, .i1⟩
  | 72 => ⟨S_, .f32⟩
  | 73 => ⟨S_, .f32⟩
  | 74 => ⟨S32x512x24x64, .f32⟩
  | 75 => ⟨S32x512x24x64, .f32⟩
  | 76 => ⟨S32x512x24x64, .f32⟩
  | 77 => ⟨S_, .f32⟩
  | 78 => ⟨S32x512x24x64, .f32⟩
  | 79 => ⟨S32x512x24x64, .f32⟩
  | 80 => ⟨S32x512x24x64, .f32⟩
  | 81 => ⟨S_, .f32⟩
  | 82 => ⟨S32x512x64, .f32⟩
  | 83 => ⟨S16384x64, .f32⟩
  | 84 => ⟨S32x512x64, .f32⟩
  | 85 => ⟨S32x512x64, .f32⟩
  | 86 => ⟨S_, .f32⟩
  | 87 => ⟨S32x512, .f32⟩
  | 88 => ⟨S32x512x1, .f32⟩
  | 89 => ⟨S32x1x512, .f32⟩
  | 90 => ⟨S32x512x512, .f32⟩
  | 91 => ⟨S32x512x512, .f32⟩
  | 92 => ⟨S32x512x512, .f32⟩
  | 93 => ⟨S32x512x512, .f32⟩
  | 94 => ⟨S_, .f32⟩
  | 95 => ⟨S32x512x512, .f32⟩
  | 96 => ⟨S32x512x512, .f32⟩
  | 97 => ⟨S32x512x512, .f32⟩
  | 98 => ⟨S32x512x512, .f32⟩
  | 99 => ⟨S32x512x24, .f32⟩
  | 100 => ⟨S32x512x24, .i32⟩
  | 101 => ⟨S_, .i32⟩
  | 102 => ⟨S32x512x24, .i32⟩
  | 103 => ⟨S32x512x24, .i1⟩
  | 104 => ⟨S_, .i32⟩
  | 105 => ⟨S32x512x24, .i32⟩
  | 106 => ⟨S32x512x24, .i32⟩
  | 107 => ⟨S32x512x24, .i32⟩
  | 108 => ⟨S32x512x24x1, .i32⟩
  | 109 => ⟨S32x512x24x64, .f32⟩
  | 110 => ⟨S32x512x1x64, .f32⟩
  | 111 => ⟨S32x512x24x64, .f32⟩
  | 112 => ⟨S32x512x24x64, .f32⟩
  | 113 => ⟨S32x512x24x128, .f32⟩
  | 114 => ⟨S32x512x24x64, .f32⟩
  | 115 => ⟨S1x1x1x64, .f32⟩
  | 116 => ⟨S32x512x24x64, .f32⟩
  | 117 => ⟨S32x512x24x64, .f32⟩
  | 118 => ⟨S_, .f32⟩
  | 119 => ⟨S32x512x24x64, .f32⟩
  | 120 => ⟨S32x512x24x64, .i1⟩
  | 121 => ⟨S_, .f32⟩
  | 122 => ⟨S32x512x24x64, .f32⟩
  | 123 => ⟨S32x512x24x64, .i1⟩
  | 124 => ⟨S_, .f32⟩
  | 125 => ⟨S_, .f32⟩
  | 126 => ⟨S32x512x24x64, .f32⟩
  | 127 => ⟨S32x512x24x64, .f32⟩
  | _ => ⟨S16384x8, .f32⟩

abbrev hbmTy0_2 (i : Nat) : BufTy := match i % 128 with
  | 0 => ⟨S32x512x24x64, .f32⟩
  | 1 => ⟨S_, .f32⟩
  | 2 => ⟨S32x512x24x64, .f32⟩
  | 3 => ⟨S32x512x24x64, .f32⟩
  | 4 => ⟨S32x512x24x64, .f32⟩
  | 5 => ⟨S_, .f32⟩
  | 6 => ⟨S32x512x64, .f32⟩
  | 7 => ⟨S16384x64, .f32⟩
  | 8 => ⟨S16384x32, .f32⟩
  | 9 => ⟨S1x32, .f32⟩
  | 10 => ⟨S16384x32, .f32⟩
  | 11 => ⟨S16384x32, .f32⟩
  | 12 => ⟨S_, .f32⟩
  | 13 => ⟨S16384x32, .f32⟩
  | 14 => ⟨S16384x32, .i1⟩
  | 15 => ⟨S_, .f32⟩
  | 16 => ⟨S16384x32, .f32⟩
  | 17 => ⟨S16384x32, .i1⟩
  | 18 => ⟨S_, .f32⟩
  | 19 => ⟨S_, .f32⟩
  | 20 => ⟨S16384x32, .f32⟩
  | 21 => ⟨S16384x32, .f32⟩
  | 22 => ⟨S16384x32, .f32⟩
  | 23 => ⟨S_, .f32⟩
  | 24 => ⟨S16384x32, .f32⟩
  | 25 => ⟨S16384x32, .f32⟩
  | 26 => ⟨S16384x32, .f32⟩
  | 27 => ⟨S16384x16, .f32⟩
  | 28 => ⟨S1x16, .f32⟩
  | 29 => ⟨S16384x16, .f32⟩
  | 30 => ⟨S16384x16, .f32⟩
  | _ => ⟨S16384x8, .f32⟩

abbrev hbmTy (i : Nat) : BufTy := match i / 128 with
  | 0 => hbmTy0_0 i
  | 1 => hbmTy0_1 i
  | 2 => hbmTy0_2 i
  | _ => ⟨S16384x8, .f32⟩

abbrev bufTy : (tb : Table) → Fin (tcTables nBuf tb) → BufTy
  | .hbm, ⟨i, _⟩ => hbmTy i
  | _, _ => ⟨S16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_cst_0 : Ref sig .tc := ⟨.hbm, 25, rfl⟩
abbrev main_call0_v2 : Ref sig .tc := ⟨.hbm, 26, rfl⟩
abbrev main_call0_v3 : Ref sig .tc := ⟨.hbm, 27, rfl⟩
abbrev main_call0_cst_1 : Ref sig .tc := ⟨.hbm, 28, rfl⟩
abbrev main_call0_call0_v0 : Ref sig .tc := ⟨.hbm, 29, rfl⟩
abbrev main_call0_call0_v1 : Ref sig .tc := ⟨.hbm, 30, rfl⟩
abbrev main_call0_v4 : Ref sig .tc := ⟨.hbm, 31, rfl⟩
abbrev main_call0_v5 : Ref sig .tc := ⟨.hbm, 32, rfl⟩
abbrev main_call0_cst_2 : Ref sig .tc := ⟨.hbm, 33, rfl⟩
abbrev main_call0_v6 : Ref sig .tc := ⟨.hbm, 34, rfl⟩
abbrev main_call0_v7 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_cst_0 : Ref sig .tc := ⟨.hbm, 44, rfl⟩
abbrev main_call1_v2 : Ref sig .tc := ⟨.hbm, 45, rfl⟩
abbrev main_call1_v3 : Ref sig .tc := ⟨.hbm, 46, rfl⟩
abbrev main_call1_cst_1 : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_v4 : Ref sig .tc := ⟨.hbm, 50, rfl⟩
abbrev main_call1_v5 : Ref sig .tc := ⟨.hbm, 51, rfl⟩
abbrev main_call1_cst_2 : Ref sig .tc := ⟨.hbm, 52, rfl⟩
abbrev main_call1_v6 : Ref sig .tc := ⟨.hbm, 53, rfl⟩
abbrev main_call1_v7 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_0 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_values : Ref sig .tc := ⟨.hbm, 71, rfl⟩
abbrev main_indices : Ref sig .tc := ⟨.hbm, 72, rfl⟩
abbrev main_c : Ref sig .tc := ⟨.hbm, 73, rfl⟩
abbrev main_v23 : Ref sig .tc := ⟨.hbm, 74, rfl⟩
abbrev main_v24 : Ref sig .tc := ⟨.hbm, 75, rfl⟩
abbrev main_c_1 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_cst_1 : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_v4 : Ref sig .tc := ⟨.hbm, 99, rfl⟩
abbrev main_call2_v5 : Ref sig .tc := ⟨.hbm, 100, rfl⟩
abbrev main_call2_cst_2 : Ref sig .tc := ⟨.hbm, 101, rfl⟩
abbrev main_call2_v6 : Ref sig .tc := ⟨.hbm, 102, rfl⟩
abbrev main_call2_v7 : Ref sig .tc := ⟨.hbm, 103, rfl⟩
abbrev main_v38 : Ref sig .tc := ⟨.hbm, 104, rfl⟩
abbrev main_cst_2 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_cst_3 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_cst_4 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_values_5 : Ref sig .tc := ⟨.hbm, 123, rfl⟩
abbrev main_indices_6 : Ref sig .tc := ⟨.hbm, 124, rfl⟩
abbrev main_c_7 : Ref sig .tc := ⟨.hbm, 125, rfl⟩
abbrev main_v54 : Ref sig .tc := ⟨.hbm, 126, rfl⟩
abbrev main_v55 : Ref sig .tc := ⟨.hbm, 127, rfl⟩
abbrev main_c_8 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_call3_cst : Ref sig .tc := ⟨.hbm, 142, rfl⟩
abbrev main_call3_v0 : Ref sig .tc := ⟨.hbm, 143, rfl⟩
abbrev main_call3_v1 : Ref sig .tc := ⟨.hbm, 144, rfl⟩
abbrev main_call3_cst_0 : Ref sig .tc := ⟨.hbm, 145, rfl⟩
abbrev main_call3_v2 : Ref sig .tc := ⟨.hbm, 146, rfl⟩
abbrev main_call3_v3 : Ref sig .tc := ⟨.hbm, 147, rfl⟩
abbrev main_call3_cst_1 : Ref sig .tc := ⟨.hbm, 148, rfl⟩
abbrev main_call3_call0_v0 : Ref sig .tc := ⟨.hbm, 149, rfl⟩
abbrev main_call3_call0_v1 : Ref sig .tc := ⟨.hbm, 150, rfl⟩
abbrev main_call3_v4 : Ref sig .tc := ⟨.hbm, 151, rfl⟩
abbrev main_call3_v5 : Ref sig .tc := ⟨.hbm, 152, rfl⟩
abbrev main_call3_cst_2 : Ref sig .tc := ⟨.hbm, 153, rfl⟩
abbrev main_call3_v6 : Ref sig .tc := ⟨.hbm, 154, rfl⟩
abbrev main_call3_v7 : Ref sig .tc := ⟨.hbm, 155, rfl⟩
abbrev main_v69 : Ref sig .tc := ⟨.hbm, 156, rfl⟩
abbrev main_cst_9 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_cst_10 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_cst_11 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_values_12 : Ref sig .tc := ⟨.hbm, 175, rfl⟩
abbrev main_indices_13 : Ref sig .tc := ⟨.hbm, 176, rfl⟩
abbrev main_c_14 : Ref sig .tc := ⟨.hbm, 177, rfl⟩
abbrev main_v85 : Ref sig .tc := ⟨.hbm, 178, rfl⟩
abbrev main_v86 : Ref sig .tc := ⟨.hbm, 179, rfl⟩
abbrev main_c_15 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_call4_cst : Ref sig .tc := ⟨.hbm, 194, rfl⟩
abbrev main_call4_v0 : Ref sig .tc := ⟨.hbm, 195, rfl⟩
abbrev main_call4_v1 : Ref sig .tc := ⟨.hbm, 196, rfl⟩
abbrev main_call4_cst_0 : Ref sig .tc := ⟨.hbm, 197, rfl⟩
abbrev main_call4_v2 : Ref sig .tc := ⟨.hbm, 198, rfl⟩
abbrev main_call4_v3 : Ref sig .tc := ⟨.hbm, 199, rfl⟩
abbrev main_call4_cst_1 : Ref sig .tc := ⟨.hbm, 200, rfl⟩
abbrev main_call4_call0_v0 : Ref sig .tc := ⟨.hbm, 201, rfl⟩
abbrev main_call4_call0_v1 : Ref sig .tc := ⟨.hbm, 202, rfl⟩
abbrev main_call4_v4 : Ref sig .tc := ⟨.hbm, 203, rfl⟩
abbrev main_call4_v5 : Ref sig .tc := ⟨.hbm, 204, rfl⟩
abbrev main_call4_cst_2 : Ref sig .tc := ⟨.hbm, 205, rfl⟩
abbrev main_call4_v6 : Ref sig .tc := ⟨.hbm, 206, rfl⟩
abbrev main_call4_v7 : Ref sig .tc := ⟨.hbm, 207, rfl⟩
abbrev main_v100 : Ref sig .tc := ⟨.hbm, 208, rfl⟩
abbrev main_cst_16 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_cst_17 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_cst_18 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_values_19 : Ref sig .tc := ⟨.hbm, 227, rfl⟩
abbrev main_indices_20 : Ref sig .tc := ⟨.hbm, 228, rfl⟩
abbrev main_c_21 : Ref sig .tc := ⟨.hbm, 229, rfl⟩
abbrev main_v116 : Ref sig .tc := ⟨.hbm, 230, rfl⟩
abbrev main_v117 : Ref sig .tc := ⟨.hbm, 231, rfl⟩
abbrev main_c_22 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_v123 : Ref sig .tc := ⟨.hbm, 238, rfl⟩
abbrev main_v124 : Ref sig .tc := ⟨.hbm, 239, rfl⟩
abbrev main_v125 : Ref sig .tc := ⟨.hbm, 240, rfl⟩
abbrev main_v126 : Ref sig .tc := ⟨.hbm, 241, rfl⟩
abbrev main_v127 : Ref sig .tc := ⟨.hbm, 242, rfl⟩
abbrev main_v128 : Ref sig .tc := ⟨.hbm, 243, rfl⟩
abbrev main_v129 : Ref sig .tc := ⟨.hbm, 244, rfl⟩
abbrev main_v130 : Ref sig .tc := ⟨.hbm, 245, rfl⟩
abbrev main_call5_cst : Ref sig .tc := ⟨.hbm, 246, rfl⟩
abbrev main_call5_v0 : Ref sig .tc := ⟨.hbm, 247, rfl⟩
abbrev main_call5_v1 : Ref sig .tc := ⟨.hbm, 248, rfl⟩
abbrev main_call5_cst_0 : Ref sig .tc := ⟨.hbm, 249, rfl⟩
abbrev main_call5_v2 : Ref sig .tc := ⟨.hbm, 250, rfl⟩
abbrev main_call5_v3 : Ref sig .tc := ⟨.hbm, 251, rfl⟩
abbrev main_call5_cst_1 : Ref sig .tc := ⟨.hbm, 252, rfl⟩
abbrev main_call5_call0_v0 : Ref sig .tc := ⟨.hbm, 253, rfl⟩
abbrev main_call5_call0_v1 : Ref sig .tc := ⟨.hbm, 254, rfl⟩
abbrev main_call5_v4 : Ref sig .tc := ⟨.hbm, 255, rfl⟩
abbrev main_call5_v5 : Ref sig .tc := ⟨.hbm, 256, rfl⟩
abbrev main_call5_cst_2 : Ref sig .tc := ⟨.hbm, 257, rfl⟩
abbrev main_call5_v6 : Ref sig .tc := ⟨.hbm, 258, rfl⟩
abbrev main_call5_v7 : Ref sig .tc := ⟨.hbm, 259, rfl⟩
abbrev main_v131 : Ref sig .tc := ⟨.hbm, 260, rfl⟩
abbrev main_cst_23 : Ref sig .tc := ⟨.hbm, 261, rfl⟩
abbrev main_v132 : Ref sig .tc := ⟨.hbm, 262, rfl⟩
abbrev main_v133 : Ref sig .tc := ⟨.hbm, 263, rfl⟩
abbrev main_v134 : Ref sig .tc := ⟨.hbm, 264, rfl⟩
abbrev main_v135 : Ref sig .tc := ⟨.hbm, 265, rfl⟩
abbrev main_v136 : Ref sig .tc := ⟨.hbm, 266, rfl⟩
abbrev main_v137 : Ref sig .tc := ⟨.hbm, 267, rfl⟩
abbrev main_call6_cst : Ref sig .tc := ⟨.hbm, 268, rfl⟩
abbrev main_call6_v0 : Ref sig .tc := ⟨.hbm, 269, rfl⟩
abbrev main_call6_v1 : Ref sig .tc := ⟨.hbm, 270, rfl⟩
abbrev main_call6_cst_0 : Ref sig .tc := ⟨.hbm, 271, rfl⟩
abbrev main_call6_v2 : Ref sig .tc := ⟨.hbm, 272, rfl⟩
abbrev main_call6_v3 : Ref sig .tc := ⟨.hbm, 273, rfl⟩
abbrev main_call6_cst_1 : Ref sig .tc := ⟨.hbm, 274, rfl⟩
abbrev main_call6_call0_v0 : Ref sig .tc := ⟨.hbm, 275, rfl⟩
abbrev main_call6_call0_v1 : Ref sig .tc := ⟨.hbm, 276, rfl⟩
abbrev main_call6_v4 : Ref sig .tc := ⟨.hbm, 277, rfl⟩
abbrev main_call6_v5 : Ref sig .tc := ⟨.hbm, 278, rfl⟩
abbrev main_call6_cst_2 : Ref sig .tc := ⟨.hbm, 279, rfl⟩
abbrev main_call6_v6 : Ref sig .tc := ⟨.hbm, 280, rfl⟩
abbrev main_call6_v7 : Ref sig .tc := ⟨.hbm, 281, rfl⟩
abbrev main_v138 : Ref sig .tc := ⟨.hbm, 282, rfl⟩
abbrev main_v139 : Ref sig .tc := ⟨.hbm, 283, rfl⟩
abbrev main_v140 : Ref sig .tc := ⟨.hbm, 284, rfl⟩
abbrev main_v141 : Ref sig .tc := ⟨.hbm, 285, rfl⟩
abbrev main_v142 : Ref sig .tc := ⟨.hbm, 286, rfl⟩

abbrev nD : Nat := 1
abbrev τ : Topo := Topo.v7x

variable {F : FTy → Type} [FloatOps F]
-- ==== Proof.Dgcnn.Block.lean ====
/-
  What one run of the kernel's body computes on its block of 512 points, as one function of the 17 input blocks.

  The functions below are the kernel's own vector operations, each layer written once: the fully connected layer
  (`linV`), the ELU (`eluV`), the distance matrix (`distV`), one extraction of the nearest remaining point of every row
  (`pickV`) and its masking (`maskV`), and the aggregation of the picked neighbour (`aggV`). `edgeV` is one edge layer:
  the loop of 23 trips, each of which extracts the next point and aggregates the one extracted before it, and the last
  aggregation. `netV` is the whole body.
-/
module

public import proofs.«01_k».proof.Proof.Gen.KernelIdeal.Value
public import Idealize.ShloMosaic.PureOps.Ideal

@[expose] public section

noncomputable section

open Idealize.ShloMosaic Idealize.ShloMosaic.TcCoe Idealize.SL.Sem
open Cert.KernelIdeal Cert.KernelIdeal.Facts₀

namespace Dgcnn

/-- An array of extended reals of shape `s`. -/
abbrev Arr (s : Shape) : Type := FVec Ideal s .f32

/-- The one array of shape `s` whose entries are all the number with the bits `w`. -/
abbrev splat (s : Shape) (w : BitVec 32) : Arr s := broadcast s (Scalar.ofBits .f32 w)

/-- The argument cut off above at zero: zero where it is positive. -/
def negPart {s : Shape} (v : Arr s) : Arr s := select (cmpf .ogt v (splat s 0x00000000#32)) (splat s 0x00000000#32) v

/-- The kernel's ELU: `v` where it is positive, else `tanh (v / 2) (eᵛ + 1)`. -/
def eluV {s : Shape} (v : Arr s) : Arr s :=
  select (cmpf .ogt v (splat s 0x00000000#32)) v
    (mulf (tanh (mulf (negPart v) (splat s 0x3F000000#32))) (addf (exp (negPart v)) (splat s 0x3F800000#32)))

/-- A fully connected layer of the block: the product with the weights from zero, plus the bias row. -/
def linV {sx sw sb so : Shape} (D : DotDims sx sw so) (hb : sb.Broadcasts so) (x : Arr sx) (w : Arr sw) (b : Arr sb) : Arr so :=
  addf (matmul D none x w (constant so .f32 0x00000000#32)) (broadcastTo so b hb)

/-- The squared norm of every point. -/
def sqV (x : Arr S512x64) : Arr S512 :=
  multiReduction .add [0] S512
    (mulf (transpose S64x512 [1, 0] x transposes_S512x64_p1_0_S64x512) (transpose S64x512 [1, 0] x transposes_S512x64_p1_0_S64x512))
    0x00000000#32 reduces_S64x512_S512 (.inl rfl) rfl

/-- The sum of the squared norms of the points of every pair, from the norms. -/
def normsV (q : Arr S512) : Arr S512x512 :=
  addf (broadcastTo S512x512 (transpose S512x1 [1, 0] (shapeCast S1x512 q shapeCasts_S512_S1x512) transposes_S1x512_p1_0_S512x1)
      broadcasts_S512x1_S512x512)
    (broadcastTo S512x512 (shapeCast S1x512 q shapeCasts_S512_S1x512) broadcasts_S1x512_S512x512)

/-- Twice the inner product of every pair of points. -/
def innerV (x : Arr S512x64) : Arr S512x512 :=
  mulf (splat S512x512 0x40000000#32)
    (matmul dot_S512x64_S512x64_S512x512_1_1_0_0_n_n none x x (constant S512x512 .f32 0x00000000#32))

/-- The squared distance of every pair of points. -/
def distV (x : Arr S512x64) : Arr S512x512 := subf (normsV (sqV x)) (innerV x)

/-- What rounding to sixteen bits and back leaves. -/
def roundV (x : Arr S512x64) : Arr S512x64 := extf .f32 (truncf .bf16 x bitsLt_bf16_f32) bitsLt_bf16_f32

/-- The three pieces the features are cut into, side by side: their rounding, the rounding of the rest, and the rounding of what
    then remains. -/
def splitV (x : Arr S512x64) : Arr S512x192 :=
  concatenate S512x192 1 [⟨S512x64, roundV x⟩, ⟨S512x64, roundV (subf x (roundV x))⟩,
    ⟨S512x64, roundV (subf (subf x (roundV x)) (roundV (subf x (roundV x))))⟩] concatenates_S512x64_S512x64_S512x64_S512x192_d1

/-- The column numbers, counted down from 512. -/
def revV : IVec S512x512 32 := subi (broadcast S512x512 512#32) (iota .tc S512x512 32 [1] iota_S512x512_d1_w32)

/-- The nearest remaining point of every row, the first of several as near, by its number counted down from 512. -/
def pickV (d : Arr S512x512) : IVec S512x1 32 :=
  shapeCast S512x1
    (multiReductionI .maxsi [1] S512
      (select
        (cmpf .oeq d
          (broadcastTo S512x512
            (shapeCast S512x1 (multiReduction .minimumf [1] S512 d 0x7F800000#32 reduces_S512x512_S512 (.inl rfl) rfl)
              shapeCasts_S512_S512x1) broadcasts_S512x1_S512x512))
        revV (broadcast S512x512 0#32))
      2147483648#32 reduces_S512x512_S512 rfl) shapeCasts_S512_S512x1

/-- Where the picked points stand: one bit per pair of points. -/
def hitV (r : IVec S512x1 32) : IVec S512x512 1 := cmpi .eq revV (broadcastTo S512x512 r broadcasts_S512x1_S512x512)

/-- The distances with the picked point of every row taken out. -/
def maskV (d : Arr S512x512) (r : IVec S512x1 32) : Arr S512x512 :=
  select (hitV r) (broadcast S512x512 (Named.named (F := Ideal) κ "mask" (φ := .f32) 0x7149F2CA#32)) d

/-- The three pieces of the picked neighbour's features, gathered by a product with the zero-one matrix of the picks. -/
def gatherV (g : Arr S512x192) (r : IVec S512x1 32) : Arr S512x192 :=
  matmul dot_S512x512_S512x192_S512x192_1_0_0_1_n_n none (sitofp .f32 (extui 32 (hitV r) natLt_1_32)) g (constant S512x192 .f32 0x00000000#32)

/-- The features of the picked neighbour: the three pieces added up. -/
def joinV (p : Arr S512x192) : Arr S512x64 :=
  addf (addf (extractStridedSlice S512x64 ![0, 0] p slices_S512x192_o0_0_S512x64)
    (extractStridedSlice S512x64 ![0, 64] p slices_S512x192_o0_64_S512x64)) (extractStridedSlice S512x64 ![0, 128] p slices_S512x192_o0_128_S512x64)

/-- The features of every point beside their difference to the picked neighbour's. -/
def pairV (x : Arr S512x64) (r : IVec S512x1 32) : Arr S512x128 :=
  concatenate S512x128 1 [⟨S512x64, x⟩, ⟨S512x64, subf (joinV (gatherV (splitV x) r)) x⟩] concatenates_S512x64_S512x64_S512x128_d1

/-- The edge layer's fully connected layer on the picked neighbours, before the ELU. -/
def preV (x : Arr S512x64) (w : Arr S128x64) (b : Arr S1x64) (r : IVec S512x1 32) : Arr S512x64 :=
  linV dot_S512x128_S128x64_S512x64_1_0_0_1_n_n broadcasts_S1x64_S512x64 (pairV x r) w b

/-- The running maximum with the message of the picked neighbours taken in. -/
def aggV (x : Arr S512x64) (w : Arr S128x64) (b : Arr S1x64) (om : Arr S512x64) (r : IVec S512x1 32) : Arr S512x64 :=
  maximumf om (eluV (preV x w b r))

/-- What the loop carries: the distances of the points not yet picked, the running maximum, and the last picks. -/
abbrev Carry : Type := Arr S512x512 × Arr S512x64 × IVec S512x1 32

/-- One trip: pick the next point of every row, and take in the message of the point picked before. -/
def stepV (x : Arr S512x64) (w : Arr S128x64) (b : Arr S1x64) (s : Carry) : Carry :=
  (maskV s.1 (pickV s.1), aggV x w b s.2.1 s.2.2, pickV s.1)

/-- What the loop starts from: the first pick made, and a running maximum below every message. -/
def startV (x : Arr S512x64) : Carry := (maskV (distV x) (pickV (distV x)), splat S512x64 0xF149F2CA#32, pickV (distV x))

/-- What the loop leaves after `n` trips. -/
def loopV (n : Nat) (x : Arr S512x64) (w : Arr S128x64) (b : Arr S1x64) : Carry := Scf.fold (fun _ : Fin n => stepV x w b) (startV x)

/-- One edge layer of the block. -/
def edgeV (x : Arr S512x64) (w : Arr S128x64) (b : Arr S1x64) : Arr S512x64 :=
  aggV x w b (loopV k0_t1_loop.trips x w b).2.1 (loopV k0_t1_loop.trips x w b).2.2

/-- A fully connected layer from 64 features to 64 with the ELU; the edge layers' input comes out of it. -/
def encodeV (x0 : Arr S512x8) (x1 : Arr S8x64) (x2 : Arr S1x64) (x3 : Arr S64x64) (x4 : Arr S1x64) : Arr S512x64 :=
  eluV (linV dot_S512x64_S64x64_S512x64_1_0_0_1_n_n broadcasts_S1x64_S512x64
    (eluV (linV dot_S512x8_S8x64_S512x64_1_0_0_1_n_n broadcasts_S1x64_S512x64 x0 x1 x2)) x3 x4)

/-- The two output layers. -/
def decodeV (x : Arr S512x64) (x13 : Arr S64x32) (x14 : Arr S1x32) (x15 : Arr S32x16) (x16 : Arr S1x16) : Arr S512x16 :=
  linV dot_S512x32_S32x16_S512x16_1_0_0_1_n_n broadcasts_S1x16_S512x16
    (eluV (linV dot_S512x64_S64x32_S512x32_1_0_0_1_n_n broadcasts_S1x32_S512x32 x x13 x14)) x15 x16

/-- The whole body: the block of the result from the 17 input blocks. -/
def netV (x0 : Arr S512x8) (x1 : Arr S8x64) (x2 : Arr S1x64) (x3 : Arr S64x64) (x4 : Arr S1x64) (x5 : Arr S128x64) (x6 : Arr S1x64)
    (x7 : Arr S128x64) (x8 : Arr S1x64) (x9 : Arr S128x64) (x10 : Arr S1x64) (x11 : Arr S128x64) (x12 : Arr S1x64) (x13 : Arr S64x32)
    (x14 : Arr S1x32) (x15 : Arr S32x16) (x16 : Arr S1x16) : Arr S512x16 :=
  decodeV (edgeV (edgeV (edgeV (edgeV (encodeV x0 x1 x2 x3 x4) x5 x6) x7 x8) x9 x10) x11 x12) x13 x14 x15 x16

end Dgcnn
-- ==== Proof.Dgcnn.Payloads.lean ====
/-
  The values the generated run of the body hands from one step to the next, as the block functions of `Block.lean`.
  Each equation unfolds on both sides to the same vector operations.
-/
module

public import proofs.«01_k».proof.Proof.Dgcnn.Block
public import Idealize.ShloMosaic.Lib.Pipeline.Value

@[expose] public section

set_option maxRecDepth 16384

noncomputable section

open Idealize.ShloMosaic Idealize.ShloMosaic.TcCoe Idealize.SL.Sem
open Cert.KernelIdeal Cert.KernelIdeal.Gen

namespace Dgcnn.Pay

variable (x : Arr S512x64) (w : Arr S128x64) (b : Arr S1x64) (om : Arr S512x64) (r : IVec S512x1 32) (d : Arr S512x512)

/-! ## The input layers -/

section
variable (x0 : Arr S512x8) (x1 : Arr S8x64) (x2 : Arr S1x64) (x3 : Arr S64x64) (x4 : Arr S1x64)

/-- The second layer before its ELU. -/
theorem pay2_eq : k0_pay2 (F := Ideal) x0 x1 x2 x3 x4 = linV dot_S512x64_S64x64_S512x64_1_0_0_1_n_n Facts₀.broadcasts_S1x64_S512x64
    (eluV (linV dot_S512x8_S8x64_S512x64_1_0_0_1_n_n Facts₀.broadcasts_S1x64_S512x64 x0 x1 x2)) x3 x4 := by
  have h : k0_pay2 (F := Ideal) x0 x1 x2 x3 x4 = linV dot_S512x64_S64x64_S512x64_1_0_0_1_n_n Facts₀.broadcasts_S1x64_S512x64
      (eluV (linV dot_S512x8_S8x64_S512x64_1_0_0_1_n_n Facts₀.broadcasts_S1x64_S512x64 x0 x1
        (shapeCast S1x64 x2 Facts₀.shapeCasts_S1x64_S1x64))) x3 (shapeCast S1x64 x4 Facts₀.shapeCasts_S1x64_S1x64) := rfl
  rw [h, shapeCast_self, shapeCast_self]

/-- The second layer's ELU, from its parts. -/
theorem pay7_eq : k0_pay7 (F := Ideal) (k0_pay2 (F := Ideal) x0 x1 x2 x3 x4) (k0_pay4 (F := Ideal) x0 x1 x2 x3 x4) (k0_pay5 (F := Ideal) x0 x1 x2 x3 x4) (k0_pay6 (F := Ideal) x0 x1 x2 x3 x4)
    (FloatOps.ofBits FTy.f32 0x3F800000#32) = encodeV x0 x1 x2 x3 x4 :=
  (rfl : _ = eluV (k0_pay2 (F := Ideal) x0 x1 x2 x3 x4)).trans (congrArg eluV (pay2_eq x0 x1 x2 x3 x4))

/-- The distances the first edge layer starts from. -/
theorem pay9_eq : k0_pay9 (F := Ideal) (k0_pay2 (F := Ideal) x0 x1 x2 x3 x4) (k0_pay4 (F := Ideal) x0 x1 x2 x3 x4) (k0_pay5 (F := Ideal) x0 x1 x2 x3 x4) (k0_pay6 (F := Ideal) x0 x1 x2 x3 x4)
    (FloatOps.ofBits FTy.f32 0x3F800000#32) = distV (encodeV x0 x1 x2 x3 x4) :=
  (rfl : _ = (fun x => distV x) (eluV (k0_pay2 (F := Ideal) x0 x1 x2 x3 x4))).trans
    (congrArg (fun x => distV x) (congrArg eluV (pay2_eq x0 x1 x2 x3 x4)))

/-- The three pieces of the first edge layer's input. -/
theorem pay10_eq : k0_pay10 (F := Ideal) (k0_pay2 (F := Ideal) x0 x1 x2 x3 x4) (k0_pay4 (F := Ideal) x0 x1 x2 x3 x4) (k0_pay5 (F := Ideal) x0 x1 x2 x3 x4) (k0_pay6 (F := Ideal) x0 x1 x2 x3 x4)
    (FloatOps.ofBits FTy.f32 0x3F800000#32) = splitV (encodeV x0 x1 x2 x3 x4) :=
  (rfl : _ = (fun x => splitV x) (eluV (k0_pay2 (F := Ideal) x0 x1 x2 x3 x4))).trans
    (congrArg (fun x => splitV x) (congrArg eluV (pay2_eq x0 x1 x2 x3 x4)))

/-- The first picks of the first edge layer. -/
theorem pay12_eq : k0_pay12 (F := Ideal) (k0_pay2 (F := Ideal) x0 x1 x2 x3 x4) (k0_pay4 (F := Ideal) x0 x1 x2 x3 x4) (k0_pay5 (F := Ideal) x0 x1 x2 x3 x4) (k0_pay6 (F := Ideal) x0 x1 x2 x3 x4)
    (FloatOps.ofBits FTy.f32 0x3F800000#32) = pickV (distV (encodeV x0 x1 x2 x3 x4)) :=
  (rfl : _ = (fun x => pickV (distV x)) (eluV (k0_pay2 (F := Ideal) x0 x1 x2 x3 x4))).trans
    (congrArg (fun x => pickV (distV x)) (congrArg eluV (pay2_eq x0 x1 x2 x3 x4)))

/-- The distances with the first picks of the first edge layer taken out. -/
theorem pay13_eq : k0_pay13 (F := Ideal) (k0_pay2 (F := Ideal) x0 x1 x2 x3 x4) (k0_pay4 (F := Ideal) x0 x1 x2 x3 x4) (k0_pay5 (F := Ideal) x0 x1 x2 x3 x4) (k0_pay6 (F := Ideal) x0 x1 x2 x3 x4)
    (FloatOps.ofBits FTy.f32 0x3F800000#32) = maskV (distV (encodeV x0 x1 x2 x3 x4)) (pickV (distV (encodeV x0 x1 x2 x3 x4))) :=
  (rfl : _ = (fun x => maskV (distV x) (pickV (distV x))) (eluV (k0_pay2 (F := Ideal) x0 x1 x2 x3 x4))).trans
    (congrArg (fun x => maskV (distV x) (pickV (distV x))) (congrArg eluV (pay2_eq x0 x1 x2 x3 x4)))
end

/-! ## The parts every edge layer has: the column numbers, the bias, the maximum to start from, one pick, one mask -/

theorem pay8_eq : k0_pay8 (F := Ideal) b = b := shapeCast_self b _
theorem pay19_eq : k0_pay19 (F := Ideal) b = b := shapeCast_self b _
theorem pay34_eq : k0_pay34 (F := Ideal) b = b := shapeCast_self b _
theorem pay45_eq : k0_pay45 (F := Ideal) b = b := shapeCast_self b _
theorem pay11_eq : k0_pay11 = revV := rfl
theorem pay24_eq : k0_pay24 = revV := rfl
theorem pay37_eq : k0_pay37 = revV := rfl
theorem pay49_eq : k0_pay49 = revV := rfl
theorem pay14_eq : k0_pay14 (F := Ideal) = splat S512x64 0xF149F2CA#32 := rfl
theorem pay27_eq : k0_pay27 (F := Ideal) = splat S512x64 0xF149F2CA#32 := rfl
theorem pay40_eq : k0_pay40 (F := Ideal) = splat S512x64 0xF149F2CA#32 := rfl
theorem pay52_eq : k0_pay52 (F := Ideal) = splat S512x64 0xF149F2CA#32 := rfl
theorem pay15_eq : k0_pay15 (F := Ideal) revV d = pickV d := rfl
theorem pay28_eq : k0_pay28 (F := Ideal) d = pickV d := rfl
theorem pay41_eq : k0_pay41 (F := Ideal) revV d = pickV d := rfl
theorem pay53_eq : k0_pay53 (F := Ideal) d = pickV d := rfl
theorem pay16_eq : k0_pay16 (F := Ideal) revV d = maskV d (pickV d) := rfl
theorem pay29_eq : k0_pay29 (F := Ideal) d = maskV d (pickV d) := rfl
theorem pay42_eq : k0_pay42 (F := Ideal) revV d = maskV d (pickV d) := rfl
theorem pay54_eq : k0_pay54 (F := Ideal) d = maskV d (pickV d) := rfl

/-! ## The aggregation of one pick -/

theorem pay17_eq : k0_pay17 (F := Ideal) x w b (splitV x) revV om r = aggV x w b om r := rfl
theorem pay18_eq : k0_pay18 (F := Ideal) x w b (splitV x) revV om r = aggV x w b om r := rfl
theorem pay30_eq : k0_pay30 (F := Ideal) x w b om r = aggV x w b om r := rfl
theorem pay33_eq : k0_pay33 (F := Ideal) om (k0_pay31 x w b r) (k0_pay32 x w b r) = aggV x w b om r := rfl
theorem pay43_eq : k0_pay43 (F := Ideal) x w b (splitV x) revV om r = aggV x w b om r := rfl
theorem pay44_eq : k0_pay44 (F := Ideal) x w b (splitV x) revV om r = aggV x w b om r := rfl
theorem pay55_eq : k0_pay55 (F := Ideal) x w b om r = aggV x w b om r := rfl

/-! ## What the later edge layers start from -/

theorem pay20_eq : k0_pay20 (F := Ideal) x w b (splitV x) revV om r = normsV (sqV (aggV x w b om r)) := rfl
theorem pay21_eq : k0_pay21 (F := Ideal) x w b (splitV x) revV om r = innerV (aggV x w b om r) := rfl
theorem pay25_eq : k0_pay25 (F := Ideal) (normsV (sqV x)) (innerV x) = pickV (distV x) := rfl
theorem pay26_eq : k0_pay26 (F := Ideal) (normsV (sqV x)) (innerV x) = maskV (distV x) (pickV (distV x)) := rfl
theorem pay35_eq : k0_pay35 (F := Ideal) om (k0_pay31 x w b r) (k0_pay32 x w b r) = distV (aggV x w b om r) := rfl
theorem pay36_eq : k0_pay36 (F := Ideal) om (k0_pay31 x w b r) (k0_pay32 x w b r) = splitV (aggV x w b om r) := rfl
theorem pay38_eq : k0_pay38 (F := Ideal) om (k0_pay31 x w b r) (k0_pay32 x w b r) = pickV (distV (aggV x w b om r)) := rfl
theorem pay39_eq : k0_pay39 (F := Ideal) d revV r = maskV d r := rfl
theorem pay46_eq : k0_pay46 (F := Ideal) x w b (splitV x) revV om r = sqV (aggV x w b om r) := rfl
theorem pay50_eq : k0_pay50 (F := Ideal) x (sqV x) = pickV (distV x) := rfl
theorem pay51_eq : k0_pay51 (F := Ideal) x (sqV x) = maskV (distV x) (pickV (distV x)) := rfl

/-! ## The output layers -/

section
variable (x13 : Arr S64x32) (x14 : Arr S1x32) (x15 : Arr S32x16) (x16 : Arr S1x16)

/-- The pair array of the last pick. -/
theorem pay56_eq : k0_pay56 (F := Ideal) x r = pairV x r := rfl

theorem pay57_eq : k0_pay57 (F := Ideal) w b om (pairV x r) x13 x14 x15
    = matmul dot_S512x32_S32x16_S512x16_1_0_0_1_n_n none
        (eluV (linV dot_S512x64_S64x32_S512x32_1_0_0_1_n_n Facts₀.broadcasts_S1x32_S512x32 (aggV x w b om r) x13 x14))
        x15 (constant S512x16 .f32 0x00000000#32) := by
  have h : k0_pay57 (F := Ideal) w b om (pairV x r) x13 x14 x15
      = matmul dot_S512x32_S32x16_S512x16_1_0_0_1_n_n none
          (eluV (linV dot_S512x64_S64x32_S512x32_1_0_0_1_n_n Facts₀.broadcasts_S1x32_S512x32 (aggV x w b om r) x13
            (shapeCast S1x32 x14 Facts₀.shapeCasts_S1x32_S1x32)))
          x15 (constant S512x16 .f32 0x00000000#32) := rfl
  rw [h, shapeCast_self]

theorem pay1_eq : k0_pay1 (F := Ideal) (k0_pay57 (F := Ideal) w b om (k0_pay56 (F := Ideal) x r) x13 x14 x15) x16
    = decodeV (aggV x w b om r) x13 x14 x15 x16 := by
  rw [pay56_eq, pay57_eq]
  unfold k0_pay1 decodeV
  rw [shapeCast_self]
  rfl
end

end Dgcnn.Pay
-- ==== Proof.Dgcnn.Run.lean ====
/-
  One run of the kernel's body leaves `netV` of its 17 input blocks in the output's staging buffer.

  The run reads every input block whole and writes the output block once, whole; what it writes is a chain of the values
  `Payloads.lean` names, with one loop for each edge layer.
-/
module

public import proofs.«01_k».proof.Proof.Dgcnn.Payloads
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Cert.KernelIdeal Cert.KernelIdeal.Gen

namespace Dgcnn

/-- Every window of the body starts at the first row and column. -/
theorem corner : (![0, 0] : Fin 2 → Nat) = fun _ => 0 := funext fun a => by fin_cases a <;> rfl

/-- The loop of an edge layer, entered with the first pick made: its trips are `stepV`. -/
theorem loopV_eq (n : Nat) (x : Arr S512x64) (w : Arr S128x64) (b : Arr S1x64) :
    Scf.fold (fun (_ : Fin n) (s : Carry) => (maskV s.1 (pickV s.1), aggV x w b s.2.1 s.2.2, pickV s.1))
      (maskV (distV x) (pickV (distV x)), splat S512x64 0xF149F2CA#32, pickV (distV x)) = loopV n x w b := rfl

/-- The last aggregation of an edge layer, after its loop. -/
theorem edgeV_eq (x : Arr S512x64) (w : Arr S128x64) (b : Arr S1x64) :
    aggV x w b (loopV k0_t1_loop.trips x w b).2.1 (loopV k0_t1_loop.trips x w b).2.2 = edgeV x w b := rfl

open Pay in
set_option maxHeartbeats 1000000 in
/-- What the body leaves in the output block. -/
theorem out_eq
    (c : Dev nD) (i : grid0.Coords) (a1 : Memref sig .tc .vmem S512x8 .f32) (h1 : a1.IsWhole) (a2 : Memref sig .tc .vmem S8x64
    .f32) (h2 : a2.IsWhole) (a3 : Memref sig .tc .vmem S1x64 .f32) (h3 : a3.IsWhole) (a4 : Memref sig .tc .vmem S64x64 .f32)
    (h4 : a4.IsWhole) (a5 : Memref sig .tc .vmem S1x64 .f32) (h5 : a5.IsWhole) (a6 : Memref sig .tc .vmem S128x64 .f32) (h6 :
    a6.IsWhole) (a7 : Memref sig .tc .vmem S1x64 .f32) (h7 : a7.IsWhole) (a8 : Memref sig .tc .vmem S128x64 .f32) (h8 :
    a8.IsWhole) (a9 : Memref sig .tc .vmem S1x64 .f32) (h9 : a9.IsWhole) (a10 : Memref sig .tc .vmem S128x64 .f32) (h10 :
    a10.IsWhole) (a11 : Memref sig .tc .vmem S1x64 .f32) (h11 : a11.IsWhole) (a12 : Memref sig .tc .vmem S128x64 .f32) (h12 :
    a12.IsWhole) (a13 : Memref sig .tc .vmem S1x64 .f32) (h13 : a13.IsWhole) (a14 : Memref sig .tc .vmem S64x32 .f32) (h14 :
    a14.IsWhole) (a15 : Memref sig .tc .vmem S1x32 .f32) (h15 : a15.IsWhole) (a16 : Memref sig .tc .vmem S32x16 .f32) (h16 :
    a16.IsWhole) (a17 : Memref sig .tc .vmem S1x16 .f32) (h17 : a17.IsWhole) (a18 : Memref sig .tc .vmem S512x16 .f32) (h18 :
    a18.IsWhole)
    (x0 : Vec Ideal S512x8 .f32) (x1 : Vec Ideal S8x64 .f32) (x2 : Vec Ideal S1x64 .f32) (x3 : Vec Ideal S64x64 .f32) (x4 :
    Vec Ideal S1x64 .f32) (x5 : Vec Ideal S128x64 .f32) (x6 : Vec Ideal S1x64 .f32) (x7 : Vec Ideal S128x64 .f32) (x8 : Vec
    Ideal S1x64 .f32) (x9 : Vec Ideal S128x64 .f32) (x10 : Vec Ideal S1x64 .f32) (x11 : Vec Ideal S128x64 .f32) (x12 : Vec
    Ideal S1x64 .f32) (x13 : Vec Ideal S64x32 .f32) (x14 : Vec Ideal S1x32 .f32) (x15 : Vec Ideal S32x16 .f32) (x16 : Vec
    Ideal S1x16 .f32) :
    out0_A_17 (F := Ideal) c i a1 h1 a2 h2 a3 h3 a4 h4 a5 h5 a6 h6 a7 h7 a8 h8 a9 h9 a10 h10 a11 h11 a12 h12 a13 h13 a14 h14 a15 h15 a16 h16 a17 h17 a18 h18
      x0 x1 x2 x3 x4 x5 x6 x7 x8 x9 x10 x11 x12 x13 x14 x15 x16
      = netV x0 x1 x2 x3 x4 x5 x6 x7 x8 x9 x10 x11 x12 x13 x14 x15 x16 := by
  unfold out0_A_17
  rw [View.read_writes_eq_canon _ _ _ (cover0_A_17 c i a1 h1 a2 h2 a3 h3 a4 h4 a5 h5 a6 h6 a7 h7 a8 h8 a9 h9 a10 h10 a11 h11
    a12 h12 a13 h13 a14 h14 a15 h15 a16 h16 a17 h17 a18 h18 x0 x1 x2 x3 x4 x5 x6 x7 x8 x9 x10 x11 x12 x13 x14 x15 x16)]
  unfold kernelRun0_A
  dsimp only
  sl_unfold_words
  rw [View.canon_unit_zero corner]
  simp only [View.readAt_eq_ld, h1.read_unread, h2.read_unread, h3.read_unread, h4.read_unread, h5.read_unread,
    h6.read_unread, h7.read_unread, h8.read_unread, h9.read_unread, h10.read_unread, h11.read_unread, h12.read_unread,
    h13.read_unread, h14.read_unread, h15.read_unread, h16.read_unread, h17.read_unread, View.ld_unit_zero (S := S512x8)
    corner, View.ld_unit_zero (S := S8x64) corner, View.ld_unit_zero (S := S1x64) corner, View.ld_unit_zero (S := S64x64)
    corner, View.ld_unit_zero (S := S128x64) corner, View.ld_unit_zero (S := S64x32) corner, View.ld_unit_zero (S := S1x32)
    corner, View.ld_unit_zero (S := S32x16) corner, View.ld_unit_zero (S := S1x16) corner]
  simp only [pay7_eq, pay10_eq, pay12_eq, pay13_eq, pay8_eq, pay19_eq, pay34_eq, pay45_eq, pay11_eq, pay24_eq, pay37_eq,
    pay49_eq, pay14_eq, pay27_eq, pay40_eq, pay52_eq, pay15_eq, pay28_eq, pay41_eq, pay53_eq, pay16_eq, pay29_eq, pay42_eq,
    pay54_eq, pay17_eq, pay18_eq, pay30_eq, pay33_eq, pay43_eq, pay44_eq, pay55_eq, pay20_eq, pay21_eq, pay25_eq, pay26_eq,
    pay35_eq, pay36_eq, pay38_eq, pay39_eq, pay46_eq, pay50_eq, pay51_eq, pay1_eq, loopV_eq, edgeV_eq]
  rfl

end Dgcnn
-- ==== Proof.Dgcnn.Order.lean ====
/-
  Picking the `k` nearest of `n` points, stated without any algorithm.

  `before d j j'` says that point `j` comes before point `j'` when the points are ordered by the distance `d` and, at
  equal distances, by their index. `rank d j` counts the points that come before `j`. The `k` nearest points are the ones
  whose rank is below `k`. A stable sort puts at position `r` the point of rank `r` (`rank_sortedFrom`).
-/
module

public import Idealize.ShloMosaic.Lib.SortFacts
public import Mathlib.Data.Real.Basic
public import Mathlib.Data.Fintype.Card
public import Mathlib.Data.Finset.Card
public import Mathlib.Order.Interval.Finset.Fin

@[expose] public section

noncomputable section

open Idealize.ShloMosaic

namespace Dgcnn

variable {n : Nat} (d : Fin n → ℝ)

/-- Point `j` comes before point `j'`: it is nearer, or as near with the smaller index. -/
def before (j j' : Fin n) : Prop := d j < d j' ∨ (d j = d j' ∧ j < j')

/-- The number of points that come before `j`. -/
def rank (j : Fin n) : Nat := by
  classical exact (Finset.univ.filter fun j' => before d j' j).card

/-- The points of rank below `k`: the `k` nearest. -/
def nearest (k : Nat) : Finset (Fin n) := Finset.univ.filter fun j => rank d j < k

theorem mem_nearest (k : Nat) (j : Fin n) : j ∈ nearest d k ↔ rank d j < k := by simp [nearest]

theorem before_irrefl (j : Fin n) : ¬ before d j j := by
  rintro (h | ⟨-, h⟩) <;> exact lt_irrefl _ h

theorem before_trans {a b c : Fin n} (h : before d a b) (h' : before d b c) : before d a c := by
  rcases h with h | ⟨h, h1⟩ <;> rcases h' with h' | ⟨h', h2⟩
  · exact .inl (h.trans h')
  · exact .inl (h' ▸ h)
  · exact .inl (h ▸ h')
  · exact .inr ⟨h.trans h', h1.trans h2⟩

theorem before_total (a b : Fin n) : before d a b ∨ a = b ∨ before d b a := by
  rcases lt_trichotomy (d a) (d b) with h | h | h
  · exact .inl (.inl h)
  · rcases lt_trichotomy a b with h' | h' | h'
    · exact .inl (.inr ⟨h, h'⟩)
    · exact .inr (.inl h')
    · exact .inr (.inr (.inr ⟨h.symm, h'⟩))
  · exact .inr (.inr (.inl h))

/-- A point that comes before another has the smaller rank. -/
theorem rank_lt_of_before {a b : Fin n} (h : before d a b) : rank d a < rank d b := by
  classical
  unfold rank
  refine Finset.card_lt_card ⟨fun c hc => ?_, fun hs => ?_⟩
  · simp only [Finset.mem_filter, Finset.mem_univ, true_and] at hc ⊢
    exact before_trans d hc h
  · have : a ∈ Finset.univ.filter fun j' => before d j' a := hs (by simpa using h)
    exact before_irrefl d a (by simpa using this)

theorem rank_lt_iff (a b : Fin n) : rank d a < rank d b ↔ before d a b := by
  refine ⟨fun h => ?_, rank_lt_of_before d⟩
  rcases before_total d a b with h' | rfl | h'
  · exact h'
  · exact absurd h (lt_irrefl _)
  · exact absurd (h.trans (rank_lt_of_before d h')) (lt_irrefl _)

theorem rank_injective : Function.Injective (rank d) := fun a b h => by
  rcases before_total d a b with h' | h' | h'
  · exact absurd h (rank_lt_of_before d h').ne
  · exact h'
  · exact absurd h (rank_lt_of_before d h').ne'

theorem rank_lt (j : Fin n) : rank d j < n := by
  classical
  have h : (Finset.univ.filter fun j' => before d j' j) ⊂ Finset.univ :=
    ⟨Finset.subset_univ _, fun hs => before_irrefl d j (by simpa using hs (Finset.mem_univ j))⟩
  simpa [rank] using Finset.card_lt_card h

/-- Every rank below the number of points is taken by exactly one point. -/
theorem exists_rank_eq (k : Nat) (hk : k < n) : ∃ j, rank d j = k := by
  have hi : Function.Injective fun j : Fin n => (⟨rank d j, rank_lt d j⟩ : Fin n) := fun a b h =>
    rank_injective d (Fin.mk.inj_iff.mp h)
  obtain ⟨j, hj⟩ := Finite.surjective_of_injective hi ⟨k, hk⟩
  exact ⟨j, congrArg Fin.val hj⟩

/-- Putting a point in front of the first one it does not come after keeps a list ordered, when the point has a smaller
    index than every point of the list. -/
theorem pairwise_insertBefore (a : Fin n) (l : List (Fin n)) (ha : ∀ b ∈ l, a < b) (hl : l.Pairwise (before d)) :
    (insertBefore (fun i i' => decide (d i < d i')) a l).Pairwise (before d) := by
  induction l with
  | nil => exact List.pairwise_singleton _ _
  | cons b l ih =>
    rw [List.pairwise_cons] at hl
    unfold insertBefore
    by_cases hb : d b < d a
    · simp only [hb, decide_true, if_true]
      refine List.pairwise_cons.2 ⟨fun c hc => ?_, ih (fun c hc => ha c (List.mem_cons_of_mem _ hc)) hl.2⟩
      rcases List.mem_cons.1 ((perm_insertBefore _ a l).mem_iff.1 hc) with rfl | hc
      · exact .inl hb
      · exact hl.1 c hc
    · simp only [hb, decide_false, Bool.false_eq_true, if_false]
      have hab : before d a b := by
        rcases lt_or_eq_of_le (not_lt.1 hb) with h | h
        · exact .inl h
        · exact .inr ⟨h, ha b List.mem_cons_self⟩
      refine List.pairwise_cons.2 ⟨fun c hc => ?_, List.pairwise_cons.2 hl⟩
      rcases List.mem_cons.1 hc with rfl | hc
      · exact hab
      · exact before_trans d hab (hl.1 c hc)

/-- A stable sort by distance of a list of increasing indices is ordered. -/
theorem pairwise_stableSort (l : List (Fin n)) (hl : l.Pairwise (· < ·)) :
    (stableSort (fun i i' => decide (d i < d i')) l).Pairwise (before d) := by
  induction l with
  | nil => exact List.Pairwise.nil
  | cons a l ih =>
    rw [List.pairwise_cons] at hl
    unfold stableSort
    exact pairwise_insertBefore d a _ (fun b hb => hl.1 b ((perm_stableSort _ l).mem_iff.1 hb)) (ih hl.2)

/-- A stable sort by distance puts at position `r` a point that comes before the one it puts at any later position. -/
theorem before_sortedFrom {r r' : Fin n} (h : r < r') :
    before d (sortedFrom (fun i i' => decide (d i < d i')) r) (sortedFrom (fun i i' => decide (d i < d i')) r') := by
  have hp := pairwise_stableSort d (List.finRange n) (List.pairwise_lt_finRange n)
  exact List.pairwise_iff_get.1 hp _ _ h

/-- A stable sort by distance puts at position `r` the point of rank `r`. -/
theorem rank_sortedFrom (r : Fin n) : rank d (sortedFrom (fun i i' => decide (d i < d i')) r) = r := by
  classical
  set π := sortedFrom (fun i i' => decide (d i < d i')) with hπ
  have hset : (Finset.univ.filter fun j' => before d j' (π r)) = (Finset.univ.filter (· < r)).image π := by
    ext j
    simp only [Finset.mem_filter, Finset.mem_univ, true_and, Finset.mem_image]
    obtain ⟨k, rfl⟩ := sortedFrom_surjective (fun i i' => decide (d i < d i')) j
    constructor
    · intro h
      refine ⟨k, ?_, rfl⟩
      rcases lt_trichotomy k r with h' | rfl | h'
      · exact h'
      · exact absurd h (before_irrefl d _)
      · exact absurd (before_trans d h (before_sortedFrom d h')) (before_irrefl d _)
    · rintro ⟨k', hk, h⟩
      rw [← h]; exact before_sortedFrom d hk
  unfold rank
  have hI : (Finset.univ.filter (· < r)) = Finset.Iio r := by ext k; simp
  rw [hset, Finset.card_image_of_injective _ (sortedFrom_injective _), hI, Fin.card_Iio]

/-- The `k` nearest points are the ones a stable sort by distance puts at its first `k` positions. -/
theorem mem_nearest_iff_sorted (k : Nat) (j : Fin n) :
    j ∈ nearest d k ↔ ∃ r : Fin n, r.val < k ∧ sortedFrom (fun i i' => decide (d i < d i')) r = j := by
  rw [mem_nearest]
  constructor
  · intro h
    refine ⟨⟨rank d j, rank_lt d j⟩, h, rank_injective d ?_⟩
    rw [rank_sortedFrom]
  · rintro ⟨r, hr, rfl⟩
    rwa [rank_sortedFrom]

end Dgcnn
-- ==== Proof.Dgcnn.Model.lean ====
/-
  The network over the real numbers: what both programs compute on one cloud of 512 points.

  A point has 8 coordinates. Two fully connected layers with an ELU lift it to 64. Four edge layers follow: each one takes
  the 24 nearest points of every point (by squared distance in the current features, the point itself included, ties to
  the smaller index), sends the pair (own features, difference to the neighbour) through one fully connected layer with an
  ELU, and keeps the maximum over the 24 neighbours. Two more fully connected layers, with an ELU between them, give the 16
  outputs.
-/
module

public import proofs.«01_k».proof.Proof.Dgcnn.Order
public import Mathlib.Analysis.SpecialFunctions.Exp
public import Mathlib.Analysis.SpecialFunctions.Trigonometric.DerivHyp

@[expose] public section

noncomputable section

namespace Dgcnn

/-- The exponential linear unit. -/
def elu (v : ℝ) : ℝ := if 0 < v then v else Real.exp v - 1

theorem neg_one_le_elu (v : ℝ) : -1 ≤ elu v := by
  unfold elu
  split
  · linarith
  · linarith [Real.exp_pos v]

/-- `tanh (v / 2) (eᵛ + 1) = eᵛ − 1`. -/
theorem tanh_half_mul (v : ℝ) : Real.tanh (v * (1 / 2)) * (Real.exp v + 1) = Real.exp v - 1 := by
  have h : Real.exp v = Real.exp (v * (1 / 2)) * Real.exp (v * (1 / 2)) := by rw [← Real.exp_add]; congr 1; ring
  rw [Real.tanh_eq_sinh_div_cosh, Real.sinh_eq, Real.cosh_eq, h, Real.exp_neg]
  have hp := Real.exp_pos (v * (1 / 2))
  field_simp

/-- One output of a fully connected layer: the row `x` against column `h` of `W`, plus the bias. -/
def lin {a b : Nat} (W : Fin a → Fin b → ℝ) (bias : Fin b → ℝ) (x : Fin a → ℝ) (h : Fin b) : ℝ :=
  (∑ k, x k * W k h) + bias h

/-- The squared distance of points `i` and `j`, expanded. -/
def dist {n c : Nat} (x : Fin n → Fin c → ℝ) (i j : Fin n) : ℝ :=
  ((∑ k, x i k * x i k) + ∑ k, x j k * x j k) - 2 * ∑ k, x i k * x j k

/-- The features of the pair `(i, j)`: those of `i`, then those of `j` less those of `i`. -/
def pair {n : Nat} (x : Fin n → Fin 64 → ℝ) (i j : Fin n) (k : Fin 128) : ℝ :=
  if h : k.val < 64 then x i ⟨k.val, h⟩ else x j ⟨k.val - 64, by omega⟩ - x i ⟨k.val - 64, by omega⟩

/-- What neighbour `j` sends to point `i`. -/
def message {n : Nat} (W : Fin 128 → Fin 64 → ℝ) (bias : Fin 64 → ℝ) (x : Fin n → Fin 64 → ℝ) (i j : Fin n) (h : Fin 64) : ℝ :=
  elu (lin W bias (pair x i j) h)

/-- `y` is the edge layer's output at point `i`, feature `h`: the greatest message of the 24 nearest points. -/
def IsEdge (W : Fin 128 → Fin 64 → ℝ) (bias : Fin 64 → ℝ) (x : Fin 512 → Fin 64 → ℝ) (i : Fin 512) (h : Fin 64) (y : ℝ) : Prop :=
  (∃ j ∈ nearest (dist x i) 24, message W bias x i j h = y) ∧ ∀ j ∈ nearest (dist x i) 24, message W bias x i j h ≤ y

theorem nearest_nonempty (d : Fin 512 → ℝ) : (nearest d 24).Nonempty := by
  obtain ⟨j, hj⟩ := exists_rank_eq d 0 (by decide)
  exact ⟨j, (mem_nearest d 24 j).2 (by omega)⟩

/-- The edge layer: the greatest message of the 24 nearest points. -/
def edge (W : Fin 128 → Fin 64 → ℝ) (bias : Fin 64 → ℝ) (x : Fin 512 → Fin 64 → ℝ) (i : Fin 512) (h : Fin 64) : ℝ :=
  (nearest (dist x i) 24).sup' (nearest_nonempty _) fun j => message W bias x i j h

/-- A number that one of the 24 nearest points sends, and that none of them exceeds, is the edge layer's output. -/
theorem edge_eq {W : Fin 128 → Fin 64 → ℝ} {bias : Fin 64 → ℝ} {x : Fin 512 → Fin 64 → ℝ} {i : Fin 512} {h : Fin 64} {y : ℝ}
    (hy : IsEdge W bias x i h y) : edge W bias x i h = y := by
  obtain ⟨⟨j, hj, e⟩, hle⟩ := hy
  refine le_antisymm (Finset.sup'_le _ _ hle) ?_
  rw [← e]
  exact Finset.le_sup' (fun j => message W bias x i j h) hj

/-- The arguments of the network for one cloud: the points, and the weights and biases of every layer. -/
structure Params where
  W1 : Fin 8 → Fin 64 → ℝ
  b1 : Fin 64 → ℝ
  W2 : Fin 64 → Fin 64 → ℝ
  b2 : Fin 64 → ℝ
  We1 : Fin 128 → Fin 64 → ℝ
  be1 : Fin 64 → ℝ
  We2 : Fin 128 → Fin 64 → ℝ
  be2 : Fin 64 → ℝ
  We3 : Fin 128 → Fin 64 → ℝ
  be3 : Fin 64 → ℝ
  We4 : Fin 128 → Fin 64 → ℝ
  be4 : Fin 64 → ℝ
  Wo1 : Fin 64 → Fin 32 → ℝ
  bo1 : Fin 32 → ℝ
  Wo2 : Fin 32 → Fin 16 → ℝ
  bo2 : Fin 16 → ℝ

/-- A fully connected layer with an ELU, over all points. -/
def act {n a b : Nat} (W : Fin a → Fin b → ℝ) (bias : Fin b → ℝ) (x : Fin n → Fin a → ℝ) (i : Fin n) (h : Fin b) : ℝ :=
  elu (lin W bias (x i) h)

/-- The features of every point after the two input layers. -/
def encode (P : Params) (x : Fin 512 → Fin 8 → ℝ) : Fin 512 → Fin 64 → ℝ := act P.W2 P.b2 (act P.W1 P.b1 x)

/-- The features of every point after the four edge layers. -/
def edges (P : Params) (x : Fin 512 → Fin 8 → ℝ) : Fin 512 → Fin 64 → ℝ :=
  edge P.We4 P.be4 (edge P.We3 P.be3 (edge P.We2 P.be2 (edge P.We1 P.be1 (encode P x))))

/-- The network's output for every point of one cloud. -/
def net (P : Params) (x : Fin 512 → Fin 8 → ℝ) (i : Fin 512) (o : Fin 16) : ℝ :=
  lin P.Wo2 P.bo2 (act P.Wo1 P.bo1 (edges P x) i) o

end Dgcnn
-- ==== Proof.Dgcnn.Scalars.lean ====
/-
  Scalar facts both programs meet: the constants of their texts, the ELU in the forms they write it, sums of products of
  real numbers, the column number a word holds, and what a maximum or minimum over all columns is.
-/
module

public import proofs.«01_k».proof.Proof.Dgcnn.Model
public import Idealize.ShloMosaic.Lib.Pointwise
public import Idealize.ShloMosaic.Lib.IdealHost

@[expose] public section

noncomputable section

open Idealize.ShloMosaic

namespace Dgcnn

/-! ## Constants -/

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_top : Ideal.ofBits .f32 0x7F800000#32 = ⊤ := by
  simp [Ideal.ofBits, Ideal.ieee]

theorem ofBits_bot : Ideal.ofBits .f32 0xFF800000#32 = ⊥ := by
  simp [Ideal.ofBits, Ideal.ieee]

/-- The number the running maximum starts from: a real number below every value of the ELU. -/
theorem ofBits_low : ∃ m : ℝ, m ≤ -1 ∧ Ideal.ofBits .f32 0xF149F2CA#32 = (m : EReal) := by
  refine ⟨_, ?_, by simp [Ideal.ofBits, Ideal.ieee, -EReal.coe_mul, -EReal.coe_neg]; rfl⟩
  norm_num

/-! ## The ELU -/

/-- The kernel's ELU of a real number. -/
theorem elu_tanh (r : ℝ) :
    (if (0 : EReal) < (r : EReal) then (r : EReal)
      else Ideal.tanh ((if (0 : EReal) < (r : EReal) then 0 else (r : EReal)) * Ideal.ofBits FTy.f32 1056964608#32) *
        (Ideal.exp (if (0 : EReal) < (r : EReal) then 0 else (r : EReal)) + 1)) = (elu r : EReal) := by
  unfold elu
  by_cases h : 0 < r
  · rw [if_pos (EReal.coe_pos.2 h), if_pos h]
  · rw [if_neg (mt EReal.coe_pos.1 h), if_neg h, if_neg (mt EReal.coe_pos.1 h), ofBits_half, ← EReal.coe_mul, Ideal.tanh_coe,
      Ideal.exp_coe, ← EReal.coe_one, ← EReal.coe_add, ← EReal.coe_mul, tanh_half_mul]

/-- The reference's ELU of a real number. -/
theorem elu_exp (r : ℝ) :
    (if (0 : EReal) < (r : EReal) then (r : EReal)
      else 1 * (Ideal.exp (if (0 : EReal) < (r : EReal) then 0 else (r : EReal)) - 1)) = (elu r : EReal) := by
  unfold elu
  by_cases h : 0 < r
  · rw [if_pos (EReal.coe_pos.2 h), if_pos h]
  · rw [if_neg (mt EReal.coe_pos.1 h), if_neg h, if_neg (mt EReal.coe_pos.1 h), Ideal.exp_coe, one_mul, ← EReal.coe_one,
      ← EReal.coe_sub]

/-! ## Sums -/

/-- A sum of real numbers is a real number. -/
theorem coe_sum {n : Nat} (f : Fin n → ℝ) : ∑ k, (f k : EReal) = ((∑ k, f k : ℝ) : EReal) :=
  (map_sum (⟨⟨((↑) : ℝ → EReal), rfl⟩, EReal.coe_add⟩ : ℝ →+ EReal) f Finset.univ).symm

/-- A sum of products of real numbers. -/
theorem coe_dot {n : Nat} (f g : Fin n → ℝ) : ∑ k, (f k : EReal) * (g k : EReal) = ((∑ k, f k * g k : ℝ) : EReal) := by
  rw [← coe_sum]
  exact Finset.sum_congr rfl fun k _ => (EReal.coe_mul _ _).symm

/-- A sum over the features of a pair: over the point's own, then over the differences. -/
theorem pair_sum {n : Nat} (x : Fin n → Fin 64 → ℝ) (i p : Fin n) (f : Fin 128 → EReal) :
    ∑ k : Fin 64, (x i k : EReal) * f ⟨k.val, by omega⟩ + ∑ k : Fin 64, ((x p k - x i k : ℝ) : EReal) * f ⟨64 + k.val, by omega⟩
      = ∑ k, (pair x i p k : EReal) * f k := by
  rw [Fin.sum_univ_two_halves 64 64 rfl]
  refine congrArg₂ (· + ·) ?_ ?_
  · refine Finset.sum_congr rfl fun k _ => ?_
    rw [pair, dif_pos k.isLt]
  · refine Finset.sum_congr rfl fun k _ => ?_
    have h : ¬ 64 + k.val < 64 := by omega
    have e : (⟨64 + k.val - 64, by omega⟩ : Fin 64) = k := Fin.ext (by simp)
    simp only [pair, dif_neg h, e]

/-! ## The column numbers -/

/-- The zero-one entries of a matrix of picks, as numbers. -/
theorem sitofp_one : (FloatOps.sitofp (F := Ideal) .f32 (1#32 : BitVec 32) : EReal) = 1 := by
  show (((1#32 : BitVec 32).toInt : ℝ) : EReal) = 1
  simp

theorem sitofp_zero : (FloatOps.sitofp (F := Ideal) .f32 (0#32 : BitVec 32) : EReal) = 0 := by
  show (((0#32 : BitVec 32).toInt : ℝ) : EReal) = 0
  simp

/-- Column `j`, counted down from 512, as a word. -/
def word (j : Fin 512) : BitVec 32 := BitVec.ofNat 32 (512 - j.val)

theorem sub_ofNat_eq_word (j : Fin 512) : IntOp.subi 512#32 (BitVec.ofNat 32 j.val) = word j := by
  unfold word IntOp.subi
  apply BitVec.eq_of_toNat_eq
  rw [BitVec.toNat_sub, BitVec.toNat_ofNat, BitVec.toNat_ofNat, BitVec.toNat_ofNat]
  omega

theorem toNat_word (j : Fin 512) : (word j).toNat = 512 - j.val := by
  rw [word, BitVec.toNat_ofNat]
  omega

theorem toInt_word (j : Fin 512) : (word j).toInt = 512 - (j.val : ℤ) := by
  rw [BitVec.toInt_eq_toNat_of_lt (by rw [toNat_word]; omega), toNat_word]
  omega

theorem word_inj (i j : Fin 512) : word i = word j ↔ i = j := by
  refine ⟨fun h => ?_, fun h => h ▸ rfl⟩
  have := congrArg BitVec.toNat h
  rw [toNat_word, toNat_word] at this
  exact Fin.ext (by omega)

theorem cmpi_eq_word (i j : Fin 512) : IntOp.cmpi .eq (word i) (word j) = if i = j then 1#1 else 0#1 := by
  by_cases h : i = j
  · rw [if_pos h, h]; simp [IntOp.cmpi]
  · have h' : word i ≠ word j := fun e => h ((word_inj i j).1 e)
    rw [if_neg h]; simp [IntOp.cmpi, beq_eq_false_iff_ne.2 h']

/-! ## A maximum or minimum over all columns -/

/-- Folding an operation over all columns gives the entry that absorbs every other entry and the starting value. -/
theorem fold_univ_eq {α : Type} {n : Nat} (op : α → α → α) [hc : Std.Commutative op] [ha : Std.Associative op] (b : α) (g : Fin n → α)
    (p : Fin n) (hb : op (g p) b = g p) (hg : ∀ j, op (g p) (g j) = g p) : Finset.univ.fold op b g = g p := by
  have key : ∀ s : Finset (Fin n), op (g p) (s.fold op b g) = g p := by
    intro s
    induction s using Finset.induction_on with
    | empty => rw [Finset.fold_empty, hb]
    | insert a s ha' ih => rw [Finset.fold_insert ha', ← ha.assoc, hg, ih]
  rw [← Finset.insert_erase (Finset.mem_univ p), Finset.fold_insert (Finset.notMem_erase p _)]
  exact key _

/-- The minimum of a row from `⊤` is its least entry. -/
theorem fold_min_eq {n : Nat} (g : Fin n → EReal) (p : Fin n) (hp : ∀ j, g p ≤ g j) : Finset.univ.fold min ⊤ g = g p :=
  fold_univ_eq min ⊤ g p (min_eq_left le_top) fun j => min_eq_left (hp j)

/-- The greatest of the numbers of some columns, zero standing for the others, is the number of the first of them. -/
theorem fold_maxsi_eq (P : Fin 512 → Prop) [DecidablePred P] (p : Fin 512) (hp : P p) (hmin : ∀ j, P j → p ≤ j) :
    Finset.univ.fold IntOp.maxsi 2147483648#32 (fun j => if P j then word j else 0#32) = word p := by
  have h := fold_univ_eq IntOp.maxsi 2147483648#32 (fun j => if P j then word j else 0#32) p
  simp only [if_pos hp] at h
  refine h ?_ fun j => ?_
  · rw [IntOp.maxsi, if_pos]
    rw [BitVec.slt_iff_toInt_lt, toInt_word]
    have : (2147483648#32 : BitVec 32).toInt = -2147483648 := by decide
    omega
  · by_cases hj : P j
    · rw [if_pos hj, IntOp.maxsi]
      split
      · rfl
      · rename_i hs
        rw [BitVec.slt_iff_toInt_lt, toInt_word, toInt_word] at hs
        have := hmin j hj
        exact (word_inj j p).2 (Fin.ext (by have : p.val ≤ j.val := this; omega))
    · rw [if_neg hj, IntOp.maxsi, if_pos]
      rw [BitVec.slt_iff_toInt_lt, toInt_word]
      have : (0#32 : BitVec 32).toInt = 0 := by decide
      omega

end Dgcnn
-- ==== Proof.Dgcnn.BlockAt.lean ====
/-
  The entries of the block functions, where their inputs are real numbers.

  Every array of the block that holds real numbers is given as `∀ i k, x (ix2 i k) = (xr i k : EReal)`. A pick `r` of row `i`
  that chose point `p` holds the word of `p`.
-/
module

public import proofs.«01_k».proof.Proof.Dgcnn.Block
public import proofs.«01_k».proof.Proof.Dgcnn.Scalars
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Dgcnn

/-- The number the mask names. -/
theorem mask_top : Named.named (F := Ideal) κ "mask" (φ := .f32) 0x7149F2CA#32 = ⊤ :=
  IdealRules.named_const.ideal_named_scalar _ _ _ _ rfl

theorem eluV_at {s : Shape} (v : Arr s) (j : s.Idx) (r : ℝ) (h : v j = (r : EReal)) : eluV v j = (elu r : EReal) := by
  pointwise [eluV, negPart, splat]
  rw [h]
  exact elu_tanh r

/-! ## The fully connected layers -/

/-- A row of real numbers against a column of real numbers, plus a real bias. -/
theorem lin_coe {a b : Nat} (W : Fin a → Fin b → ℝ) (bias : Fin b → ℝ) (x : Fin a → ℝ) (h : Fin b) :
    ∑ k, (x k : EReal) * (W k h : EReal) + (bias h : EReal) = (lin W bias x h : EReal) := by
  rw [coe_dot, ← EReal.coe_add]
  rfl

section
variable {W1 : Fin 8 → Fin 64 → ℝ} {W2 : Fin 64 → Fin 64 → ℝ} {We : Fin 128 → Fin 64 → ℝ} {b : Fin 64 → ℝ} {Wo1 : Fin 64 → Fin 32 → ℝ}
  {bo1 : Fin 32 → ℝ} {Wo2 : Fin 32 → Fin 16 → ℝ} {bo2 : Fin 16 → ℝ}

theorem linV_8_64 {x : Arr S512x8} {w : Arr S8x64} {c : Arr S1x64} {xr : Fin 512 → Fin 8 → ℝ} (hx : ∀ i k, x (ix2 i k) = (xr i k : EReal))
    (hw : ∀ k h, w (ix2 k h) = (W1 k h : EReal)) (hc : ∀ h, c (ix2 0 h) = (b h : EReal)) (i : Fin 512) (h : Fin 64) :
    linV dot_S512x8_S8x64_S512x64_1_0_0_1_n_n Facts₀.broadcasts_S1x64_S512x64 x w c (ix2 i h) = (lin W1 b (xr i) h : EReal) := by
  pointwise [linV]
  simp only [hx, hw, hc, lin_coe]

theorem linV_64_64 {x : Arr S512x64} {w : Arr S64x64} {c : Arr S1x64} {xr : Fin 512 → Fin 64 → ℝ}
    (hx : ∀ i k, x (ix2 i k) = (xr i k : EReal)) (hw : ∀ k h, w (ix2 k h) = (W2 k h : EReal)) (hc : ∀ h, c (ix2 0 h) = (b h : EReal))
    (i : Fin 512) (h : Fin 64) :
    linV dot_S512x64_S64x64_S512x64_1_0_0_1_n_n Facts₀.broadcasts_S1x64_S512x64 x w c (ix2 i h) = (lin W2 b (xr i) h : EReal) := by
  pointwise [linV]
  simp only [hx, hw, hc, lin_coe]

theorem linV_64_32 {x : Arr S512x64} {w : Arr S64x32} {c : Arr S1x32} {xr : Fin 512 → Fin 64 → ℝ}
    (hx : ∀ i k, x (ix2 i k) = (xr i k : EReal)) (hw : ∀ k h, w (ix2 k h) = (Wo1 k h : EReal)) (hc : ∀ h, c (ix2 0 h) = (bo1 h : EReal))
    (i : Fin 512) (h : Fin 32) :
    linV dot_S512x64_S64x32_S512x32_1_0_0_1_n_n Facts₀.broadcasts_S1x32_S512x32 x w c (ix2 i h) = (lin Wo1 bo1 (xr i) h : EReal) := by
  pointwise [linV]
  simp only [hx, hw, hc, lin_coe]

theorem linV_32_16 {x : Arr S512x32} {w : Arr S32x16} {c : Arr S1x16} {xr : Fin 512 → Fin 32 → ℝ}
    (hx : ∀ i k, x (ix2 i k) = (xr i k : EReal)) (hw : ∀ k h, w (ix2 k h) = (Wo2 k h : EReal)) (hc : ∀ h, c (ix2 0 h) = (bo2 h : EReal))
    (i : Fin 512) (h : Fin 16) :
    linV dot_S512x32_S32x16_S512x16_1_0_0_1_n_n Facts₀.broadcasts_S1x16_S512x16 x w c (ix2 i h) = (lin Wo2 bo2 (xr i) h : EReal) := by
  pointwise [linV]
  simp only [hx, hw, hc, lin_coe]

end

/-! ## Distances, picks and masks -/

theorem distV_at {x : Arr S512x64} {xr : Fin 512 → Fin 64 → ℝ} (hx : ∀ i k, x (ix2 i k) = (xr i k : EReal)) (i j : Fin 512) :
    distV x (ix2 i j) = (dist xr i j : EReal) := by
  pointwise [distV, normsV, sqV, innerV, splat]
  simp only [hx, coe_dot, ofBits_two, ← EReal.coe_mul, ← EReal.coe_add, ← EReal.coe_sub]
  rfl

theorem revV_at (i j : Fin 512) : revV (ix2 i j) = word j := by
  pointwise [revV]
  exact sub_ofNat_eq_word j

/-- The pick of a row is the first of its least entries. -/
theorem pickV_at {d : Arr S512x512} {i p : Fin 512} (hp : ∀ j, d (ix2 i p) ≤ d (ix2 i j)) (hfirst : ∀ j, d (ix2 i j) = d (ix2 i p) → p ≤ j) :
    pickV d (ix2 i 0) = word p := by
  pointwise [pickV]
  simp only [revV_at, ofBits_top, fold_min_eq (fun j => d (ix2 i j)) p hp]
  exact fold_maxsi_eq (fun j => d (ix2 i j) = d (ix2 i p)) p rfl hfirst

theorem hitV_at {r : IVec S512x1 32} {i p : Fin 512} (hr : r (ix2 i 0) = word p) (j : Fin 512) :
    hitV r (ix2 i j) = if j = p then 1#1 else 0#1 := by
  pointwise [hitV]
  rw [revV_at, hr, cmpi_eq_word]

theorem maskV_at {d : Arr S512x512} {r : IVec S512x1 32} {i p : Fin 512} (hr : r (ix2 i 0) = word p) (j : Fin 512) :
    maskV d r (ix2 i j) = if j = p then ⊤ else d (ix2 i j) := by
  pointwise [maskV]
  rw [hitV_at hr, mask_top]
  by_cases h : j = p <;> simp [h, Scalar.select]

/-! ## The picked neighbour's features and its message -/

/-- The product with the zero-one matrix of the picks gathers: each row is the picked point's. -/
theorem gatherV_at {g : Arr S512x192} {r : IVec S512x1 32} {i p : Fin 512} (hr : r (ix2 i 0) = word p) (k : Fin 192) :
    gatherV g r (ix2 i k) = g (ix2 p k) := by
  pointwise [gatherV]
  simp only [hitV_at hr]
  rw [Finset.sum_eq_single p]
  · simp [sitofp_one]
  · intro j _ hj
    simp [hj, sitofp_zero]
  · intro h
    exact absurd (Finset.mem_univ p) h

/-- The three pieces add up to the features: over the real numbers the first piece is all of them, and what remains is zero. -/
theorem joinV_at {x : Arr S512x64} {xr : Fin 512 → Fin 64 → ℝ} (hx : ∀ i k, x (ix2 i k) = (xr i k : EReal)) {r : IVec S512x1 32}
    {i p : Fin 512} (hr : r (ix2 i 0) = word p) (k : Fin 64) : joinV (gatherV (splitV x) r) (ix2 i k) = (xr p k : EReal) := by
  pointwise [joinV]
  simp only [gatherV_at hr]
  pointwise [splitV, roundV]
  have h1 : ¬ 128 + k.val < 64 := by omega
  have h2 : ¬ 128 + k.val - 64 < 64 := by omega
  simp only [h1, h2, dite_false, hx, ← EReal.coe_sub, ← EReal.coe_add, sub_self, add_zero]

/-- The message of the picked neighbour, before the ELU. -/
theorem preV_at {x : Arr S512x64} {xr : Fin 512 → Fin 64 → ℝ} (hx : ∀ i k, x (ix2 i k) = (xr i k : EReal)) {w : Arr S128x64} {c : Arr S1x64}
    {W : Fin 128 → Fin 64 → ℝ} {b : Fin 64 → ℝ} (hw : ∀ k h, w (ix2 k h) = (W k h : EReal)) (hc : ∀ h, c (ix2 0 h) = (b h : EReal))
    {r : IVec S512x1 32} {i p : Fin 512} (hr : r (ix2 i 0) = word p) (h : Fin 64) :
    preV x w c r (ix2 i h) = (lin W b (pair xr i p) h : EReal) := by
  rw [← lin_coe]
  pointwise [preV, linV, pairV]
  simp only [joinV_at hx hr, hx, hw, hc, ← EReal.coe_sub]
  rw [← pair_sum xr i p fun k => (W k h : EReal)]

/-- The running maximum with the picked neighbour's message taken in. -/
theorem aggV_at {x : Arr S512x64} {xr : Fin 512 → Fin 64 → ℝ} (hx : ∀ i k, x (ix2 i k) = (xr i k : EReal)) {w : Arr S128x64} {c : Arr S1x64}
    {W : Fin 128 → Fin 64 → ℝ} {b : Fin 64 → ℝ} (hw : ∀ k h, w (ix2 k h) = (W k h : EReal)) (hc : ∀ h, c (ix2 0 h) = (b h : EReal))
    {r : IVec S512x1 32} {i p : Fin 512} (hr : r (ix2 i 0) = word p) {om : Arr S512x64} {h : Fin 64} {m : ℝ}
    (hm : om (ix2 i h) = (m : EReal)) : aggV x w c om r (ix2 i h) = ((max m (message W b xr i p h) : ℝ) : EReal) := by
  have he := eluV_at _ _ _ (preV_at hx hw hc hr h)
  pointwise [aggV]
  rw [he, hm]
  exact EReal.coe_strictMono.monotone.map_max.symm

end Dgcnn
-- ==== Proof.Dgcnn.BlockNet.lean ====
/-
  The block's edge layers and the whole body, over the real numbers: `netV` computes the network of `Model.lean`.

  The loop invariant: after `n` trips row `i` has picked its points of rank `0 … n`, the last pick is the point of rank `n`, the
  picked distances are taken out, and the running maximum holds the messages of the points of rank below `n`.
-/
module

public import proofs.«01_k».proof.Proof.Dgcnn.BlockAt

@[expose] public section

set_option maxRecDepth 16384

noncomputable section

open Idealize.ShloMosaic Idealize.ShloMosaic.TcCoe Idealize.SL.Sem
open Cert.KernelIdeal Cert.KernelIdeal.Gen

namespace Dgcnn

/-! ## One pick -/

/-- Row `i` of `d` holds the distances `dd`, those of the points of rank below `n` taken out. -/
def Left (d : Arr S512x512) (dd : Fin 512 → ℝ) (i : Fin 512) (n : Nat) : Prop :=
  ∀ j, d (ix2 i j) = if rank dd j < n then ⊤ else (dd j : EReal)

/-- The pick of such a row is its point of rank `n`. -/
theorem pickV_left {d : Arr S512x512} {dd : Fin 512 → ℝ} {i : Fin 512} {n : Nat} (hd : Left d dd i n) {p : Fin 512} (hp : rank dd p = n) :
    pickV d (ix2 i 0) = word p := by
  have hdp : d (ix2 i p) = (dd p : EReal) := by rw [hd p, if_neg (by omega)]
  have hcase : ∀ j, j = p ∨ rank dd j < n ∨ before dd p j := fun j => by
    rcases before_total dd j p with h | h | h
    · exact .inr (.inl (hp ▸ rank_lt_of_before dd h))
    · exact .inl h
    · exact .inr (.inr h)
  refine pickV_at (fun j => ?_) fun j hj => ?_
  · rw [hdp, hd j]
    rcases hcase j with rfl | h | h
    · rw [if_neg (by omega)]
    · rw [if_pos h]; exact le_top
    · split
      · exact le_top
      · rcases h with h | ⟨h, -⟩
        · exact EReal.coe_le_coe_iff.2 h.le
        · exact EReal.coe_le_coe_iff.2 h.le
  · rw [hdp, hd j] at hj
    rcases hcase j with rfl | h | h
    · exact le_rfl
    · rw [if_pos h] at hj; exact absurd hj.symm (EReal.coe_ne_top _)
    · rw [if_neg (by have := rank_lt_of_before dd h; omega)] at hj
      rcases h with h | ⟨-, h⟩
      · exact absurd (EReal.coe_injective hj) h.ne'
      · exact h.le

/-- Taking the pick out leaves the points of rank above `n`. -/
theorem maskV_left {d : Arr S512x512} {dd : Fin 512 → ℝ} {i : Fin 512} {n : Nat} (hd : Left d dd i n) {p : Fin 512} (hp : rank dd p = n) :
    Left (maskV d (pickV d)) dd i (n + 1) := fun j => by
  rw [maskV_at (pickV_left hd hp), hd j]
  by_cases hj : j = p
  · rw [if_pos hj, if_pos (by rw [hj, hp]; omega)]
  · have hne : rank dd j ≠ n := fun h => hj (rank_injective dd (h.trans hp.symm))
    rw [if_neg hj]
    by_cases h : rank dd j < n
    · rw [if_pos h, if_pos (by omega)]
    · rw [if_neg h, if_neg (by omega)]

/-! ## The loop -/

section
variable {x : Arr S512x64} {xr : Fin 512 → Fin 64 → ℝ} (hx : ∀ i k, x (ix2 i k) = (xr i k : EReal)) {w : Arr S128x64} {c : Arr S1x64}
  {W : Fin 128 → Fin 64 → ℝ} {b : Fin 64 → ℝ} (hw : ∀ k h, w (ix2 k h) = (W k h : EReal)) (hc : ∀ h, c (ix2 0 h) = (b h : EReal))

/-- `m` is the maximum of the messages of the points of rank below `n`, or at most `-1` if `n` is zero. -/
def IsMax (W : Fin 128 → Fin 64 → ℝ) (b : Fin 64 → ℝ) (xr : Fin 512 → Fin 64 → ℝ) (i : Fin 512) (h : Fin 64) (n : Nat) (m : ℝ) : Prop :=
  (∀ j, rank (dist xr i) j < n → message W b xr i j h ≤ m) ∧
    ((n = 0 ∧ m ≤ -1) ∨ ∃ j, rank (dist xr i) j < n ∧ message W b xr i j h = m)

/-- Taking in the message of the point of rank `n`. -/
theorem IsMax.step {i : Fin 512} {h : Fin 64} {n : Nat} {m : ℝ} (hm : IsMax W b xr i h n m) {p : Fin 512} (hp : rank (dist xr i) p = n) :
    IsMax W b xr i h (n + 1) (max m (message W b xr i p h)) := by
  refine ⟨fun j hj => ?_, .inr ?_⟩
  · by_cases hn : rank (dist xr i) j < n
    · exact (hm.1 j hn).trans (le_max_left _ _)
    · have : j = p := rank_injective (dist xr i) (by omega)
      rw [this]; exact le_max_right _ _
  · rcases le_total m (message W b xr i p h) with hle | hle
    · exact ⟨p, by omega, (max_eq_right hle).symm⟩
    · rw [max_eq_left hle]
      rcases hm.2 with ⟨-, hlow⟩ | ⟨j, hj, e⟩
      · exact ⟨p, by omega, le_antisymm hle (hlow.trans (neg_one_le_elu _))⟩
      · exact ⟨j, by omega, e⟩

/-- What the loop's carried values hold after `n` trips. -/
structure After (W : Fin 128 → Fin 64 → ℝ) (b : Fin 64 → ℝ) (xr : Fin 512 → Fin 64 → ℝ) (n : Nat) (s : Carry) : Prop where
  left : ∀ i, Left s.1 (dist xr i) i (n + 1)
  best : ∀ i h, ∃ m : ℝ, s.2.1 (ix2 i h) = (m : EReal) ∧ IsMax W b xr i h n m
  pick : ∀ i, ∃ p, rank (dist xr i) p = n ∧ s.2.2 (ix2 i 0) = word p

include hx in
theorem after_start : After W b xr 0 (startV x) := by
  have hd : ∀ i, Left (distV x) (dist xr i) i 0 := fun i j => by rw [if_neg (Nat.not_lt_zero _)]; exact distV_at hx i j
  have hmask : (startV x).1 = maskV (distV x) (pickV (distV x)) := by dsimp only [startV]
  have hlow : (startV x).2.1 = splat S512x64 0xF149F2CA#32 := by dsimp only [startV]
  have hpick : (startV x).2.2 = pickV (distV x) := by dsimp only [startV]
  refine ⟨fun i => ?_, fun i h => ?_, fun i => ?_⟩
  · obtain ⟨p, hp⟩ := exists_rank_eq (dist xr i) 0 (by omega)
    rw [hmask]
    exact maskV_left (hd i) hp
  · obtain ⟨m, hle, hm⟩ := ofBits_low
    refine ⟨m, ?_, fun j hj => absurd hj (Nat.not_lt_zero _), .inl ⟨rfl, hle⟩⟩
    rw [hlow]
    pointwise [splat]
    exact hm
  · obtain ⟨p, hp⟩ := exists_rank_eq (dist xr i) 0 (by omega)
    refine ⟨p, hp, ?_⟩
    rw [hpick]
    exact pickV_left (hd i) hp

include hx hw hc in
theorem after_step {n : Nat} (hn : n + 1 < 512) {s : Carry} (hs : After W b xr n s) : After W b xr (n + 1) (stepV x w c s) := by
  have hmask : (stepV x w c s).1 = maskV s.1 (pickV s.1) := by dsimp only [stepV]
  have hbest : (stepV x w c s).2.1 = aggV x w c s.2.1 s.2.2 := by dsimp only [stepV]
  have hpick : (stepV x w c s).2.2 = pickV s.1 := by dsimp only [stepV]
  refine ⟨fun i => ?_, fun i h => ?_, fun i => ?_⟩
  · obtain ⟨p, hp⟩ := exists_rank_eq (dist xr i) (n + 1) hn
    rw [hmask]
    exact maskV_left (hs.left i) hp
  · obtain ⟨m, hm, hmax⟩ := hs.best i h
    obtain ⟨p, hp, hr⟩ := hs.pick i
    rw [hbest]
    exact ⟨_, aggV_at hx hw hc hr hm, hmax.step hp⟩
  · obtain ⟨p, hp⟩ := exists_rank_eq (dist xr i) (n + 1) hn
    rw [hpick]
    exact ⟨p, hp, pickV_left (hs.left i) hp⟩

/-- A loop whose trips do not look at their number, folded over any list of them. -/
theorem after_foldl {α : Type} (f : Carry → Carry) (N : Nat)
    (hf : ∀ n, n + 1 < N → ∀ s, After W b xr n s → After W b xr (n + 1) (f s)) (l : List α) :
    ∀ n s, n + l.length < N → After W b xr n s → After W b xr (n + l.length) (l.foldl (fun s _ => f s) s) := by
  induction l with
  | nil => intro n s _ hs; exact hs
  | cons a l ih =>
    intro n s hn hs
    rw [List.length_cons] at hn ⊢
    have := ih (n + 1) (f s) (by omega) (hf n (by omega) s hs)
    rw [List.foldl_cons, show n + (l.length + 1) = n + 1 + l.length by omega]
    exact this

include hx hw hc in
/-- The loop's carried values after all its trips. -/
theorem after_loop {n : Nat} (hn : n < 512) : After W b xr n (loopV n x w c) := by
  unfold loopV
  rw [Scf.fold_eq]
  have h := after_foldl (stepV x w c) 512 (fun k hk s hs => after_step hx hw hc hk hs) (List.finRange n) 0 (startV x)
    (by rw [List.length_finRange]; omega) (after_start hx)
  rwa [List.length_finRange, Nat.zero_add] at h

include hx hw hc in
/-- One edge layer of the block is the edge layer of the network. -/
theorem edgeV_at (i : Fin 512) (h : Fin 64) : edgeV x w c (ix2 i h) = (edge W b xr i h : EReal) := by
  have ht : k0_t1_loop.trips = 23 := by decide
  have hs := after_loop hx hw hc (n := k0_t1_loop.trips) (by rw [ht]; omega)
  obtain ⟨m, hm, hmax⟩ := hs.best i h
  obtain ⟨p, hp, hr⟩ := hs.pick i
  unfold edgeV
  rw [aggV_at hx hw hc hr hm]
  have h1 := hmax.step hp
  rw [ht] at h1
  refine congrArg _ (edge_eq ⟨?_, fun j hj => h1.1 j ((mem_nearest _ _ _).1 hj)⟩).symm
  rcases h1.2 with ⟨h0, -⟩ | ⟨j, hj, e⟩
  · omega
  · exact ⟨j, (mem_nearest _ _ _).2 hj, e⟩

end

/-! ## The whole body -/

/-- The body's result block, where its input blocks hold the points and the parameters `P`. -/
theorem netV_at {P : Params} {xr : Fin 512 → Fin 8 → ℝ} {x0 : Arr S512x8} {x1 : Arr S8x64} {x2 : Arr S1x64} {x3 : Arr S64x64} {x4 : Arr S1x64}
    {x5 : Arr S128x64} {x6 : Arr S1x64} {x7 : Arr S128x64} {x8 : Arr S1x64} {x9 : Arr S128x64} {x10 : Arr S1x64} {x11 : Arr S128x64}
    {x12 : Arr S1x64} {x13 : Arr S64x32} {x14 : Arr S1x32} {x15 : Arr S32x16} {x16 : Arr S1x16}
    (h0 : ∀ i k, x0 (ix2 i k) = (xr i k : EReal)) (h1 : ∀ k h, x1 (ix2 k h) = (P.W1 k h : EReal)) (h2 : ∀ h, x2 (ix2 0 h) = (P.b1 h : EReal))
    (h3 : ∀ k h, x3 (ix2 k h) = (P.W2 k h : EReal)) (h4 : ∀ h, x4 (ix2 0 h) = (P.b2 h : EReal))
    (h5 : ∀ k h, x5 (ix2 k h) = (P.We1 k h : EReal)) (h6 : ∀ h, x6 (ix2 0 h) = (P.be1 h : EReal))
    (h7 : ∀ k h, x7 (ix2 k h) = (P.We2 k h : EReal)) (h8 : ∀ h, x8 (ix2 0 h) = (P.be2 h : EReal))
    (h9 : ∀ k h, x9 (ix2 k h) = (P.We3 k h : EReal)) (h10 : ∀ h, x10 (ix2 0 h) = (P.be3 h : EReal))
    (h11 : ∀ k h, x11 (ix2 k h) = (P.We4 k h : EReal)) (h12 : ∀ h, x12 (ix2 0 h) = (P.be4 h : EReal))
    (h13 : ∀ k h, x13 (ix2 k h) = (P.Wo1 k h : EReal)) (h14 : ∀ h, x14 (ix2 0 h) = (P.bo1 h : EReal))
    (h15 : ∀ k h, x15 (ix2 k h) = (P.Wo2 k h : EReal)) (h16 : ∀ h, x16 (ix2 0 h) = (P.bo2 h : EReal)) (i : Fin 512) (o : Fin 16) :
    netV x0 x1 x2 x3 x4 x5 x6 x7 x8 x9 x10 x11 x12 x13 x14 x15 x16 (ix2 i o) = (net P xr i o : EReal) := by
  have e0 : ∀ i h, encodeV x0 x1 x2 x3 x4 (ix2 i h) = (encode P xr i h : EReal) := fun i h =>
    eluV_at _ _ _ (linV_64_64 (xr := act P.W1 P.b1 xr) (fun i k => eluV_at _ _ _ (linV_8_64 h0 h1 h2 i k)) h3 h4 i h)
  have e1 := edgeV_at e0 h5 h6
  have e2 := edgeV_at e1 h7 h8
  have e3 := edgeV_at e2 h9 h10
  have e4 := edgeV_at e3 h11 h12
  exact linV_32_16 (xr := act P.Wo1 P.bo1 (edges P xr)) (fun i k => eluV_at _ _ _ (linV_64_32 e4 h13 h14 i k)) h15 h16 i o

end Dgcnn
-- ==== Proof.Dgcnn.Cloud.lean ====
/-
  What the reference computes, as functions of whole arrays: 32 clouds of 512 points.

  The functions are the reference's own operations, each layer written once: the ELU (`eluR`), the negated squared distances of
  every pair of one cloud (`closeR`), the numbers of the 24 closest points (`idxR`), the pair features (`pairR`), the edge
  layer's fully connected layer (`preR`) and its maximum over the neighbours (`edgeR`).
-/
module

public import proofs.«01_k».proof.Proof.Gen.ReferenceIdeal.Run
public import Idealize.ShloMosaic.PureOps.Ideal

@[expose] public section

set_option maxRecDepth 16384

noncomputable section

open Idealize.ShloMosaic Idealize.ShloMosaic.TcCoe Idealize.SL.Sem
open Cert.ReferenceIdeal Cert.ReferenceIdeal.Facts₀

namespace Dgcnn

/-- The reference's ELU: `v` where it is positive, else `1 · (e^v − 1)`. -/
def eluR {s : Shape} (hb : S_.BroadcastsInDim s ![]) (v : FVec Ideal s .f32) : FVec Ideal s .f32 :=
  select (cmpf .ogt v (broadcastInDim s ![] hb (constant S_ .f32 0x00000000#32))) v
    (mulf (broadcastInDim s ![] hb (constant S_ .f32 0x3F800000#32))
      (Host.expm1 (select (cmpf .ogt v (broadcastInDim s ![] hb (constant S_ .f32 0x00000000#32)))
        (broadcastInDim s ![] hb (id (constant S_ .f32 0x00000000#32))) v)))

/-- The squared norm of every point of every cloud. -/
def normR (x : FVec Ideal S32x512x64 .f32) : FVec Ideal S32x512 .f32 :=
  Host.reduceAdd (mulf x x) (constant S_ .f32 0x00000000#32) reducesTo_S32x512x64_S32x512_d2 h_S_

/-- The squared distance of every pair of points of every cloud, negated. -/
def closeR (x : FVec Ideal S32x512x64 .f32) : FVec Ideal S32x512x512 .f32 :=
  Host.negf (subf (addf
    (broadcastInDim S32x512x512 ![0, 1, 2] bcast_S32x512x1_S32x512x512_0_1_2
      (broadcastInDim S32x512x1 ![0, 1] bcast_S32x512_S32x512x1_0_1 (normR x)))
    (broadcastInDim S32x512x512 ![0, 1, 2] bcast_S32x1x512_S32x512x512_0_1_2
      (broadcastInDim S32x1x512 ![0, 2] bcast_S32x512_S32x1x512_0_2 (normR x))))
    (mulf (broadcastInDim S32x512x512 ![] bcast_S_S32x512x512 (constant S_ .f32 0x40000000#32))
      (Host.dotGeneral dot_S32x512x64_S32x512x64_S32x512x512_2_2_1_1_0_0 none x x)))

/-- The numbers of the 24 closest points of every point. -/
def idxR (x : FVec Ideal S32x512x64 .f32) : IVec S32x512x24 32 :=
  (Host.topK S32x512x24 2 (FloatOps.cmpfTotal .gt) (closeR x) sliceFits_S32x512x512_S32x512x24).2

/-- The same numbers, a negative one counted from the end. -/
def wrapR (n : IVec S32x512x24 32) : IVec S32x512x24 32 :=
  select (cmpi .slt n (broadcastInDim S32x512x24 ![] bcast_S_S32x512x24 (constantI S_ 32 0#32)))
    (addi n (broadcastInDim S32x512x24 ![] bcast_S_S32x512x24 (constantI S_ 32 512#32))) n

/-- The features of every neighbour. -/
def gatherR (x : FVec Ideal S32x512x64 .f32) (n : IVec S32x512x24 32) : FVec Ideal S32x512x24x64 .f32 :=
  Host.gather gather_S32x512x64_S32x512x24x1_S32x512x24x64_3_1_0_0_1_3_1164 x
    (broadcastInDim S32x512x24x1 ![0, 1, 2] bcast_S32x512x24_S32x512x24x1_0_1_2 n)

/-- The features of every point, once for each of its neighbours. -/
def ownR (x : FVec Ideal S32x512x64 .f32) : FVec Ideal S32x512x24x64 .f32 :=
  broadcastInDim S32x512x24x64 ![0, 1, 2, 3] bcast_S32x512x1x64_S32x512x24x64_0_1_2_3
    (broadcastInDim S32x512x1x64 ![0, 1, 3] bcast_S32x512x64_S32x512x1x64_0_1_3 x)

/-- The features of every point beside their difference to each neighbour's. -/
def pairR (x : FVec Ideal S32x512x64 .f32) : FVec Ideal S32x512x24x128 .f32 :=
  concatenate S32x512x24x128 3 [⟨S32x512x24x64, ownR x⟩, ⟨S32x512x24x64, subf (gatherR x (wrapR (idxR x))) (ownR x)⟩]
    concatenates_S32x512x24x64_S32x512x24x64_S32x512x24x128_d3

/-- The edge layer's fully connected layer on every neighbour, before the ELU. -/
def preR (x : FVec Ideal S32x512x64 .f32) (w : FVec Ideal S128x64 .f32) (b : FVec Ideal S64 .f32) : FVec Ideal S32x512x24x64 .f32 :=
  addf (Host.dotGeneral dot_S32x512x24x128_S128x64_S32x512x24x64_3_0_012_1_n_n none (pairR x) w)
    (broadcastInDim S32x512x24x64 ![0, 1, 2, 3] bcast_S1x1x1x64_S32x512x24x64_0_1_2_3 (broadcastInDim S1x1x1x64 ![3] bcast_S64_S1x1x1x64_3 b))

/-- One edge layer: the maximum over the neighbours, from `-∞`. -/
def edgeR (x : FVec Ideal S32x512x64 .f32) (w : FVec Ideal S128x64 .f32) (b : FVec Ideal S64 .f32) : FVec Ideal S32x512x64 .f32 :=
  Host.reduce FloatOps.maximumf (eluR bcast_S_S32x512x24x64 (preR x w b)) (constant S_ .f32 0xFF800000#32)
    reducesTo_S32x512x24x64_S32x512x64_d2 h_S_

/-- All the points in one list. -/
def flatR (x : FVec Ideal S32x512x64 .f32) : FVec Ideal S16384x64 .f32 := shapeCast S16384x64 x shapeCasts_S32x512x64_S16384x64

/-- The list of all points cut into its clouds. -/
def cloudsR (x : FVec Ideal S16384x64 .f32) : FVec Ideal S32x512x64 .f32 := shapeCast S32x512x64 x shapeCasts_S16384x64_S32x512x64

/-- The two input layers. -/
def encodeR (x : FVec Ideal S16384x8 .f32) (w1 : FVec Ideal S8x64 .f32) (b1 : FVec Ideal S64 .f32) (w2 : FVec Ideal S64x64 .f32)
    (b2 : FVec Ideal S64 .f32) : FVec Ideal S16384x64 .f32 :=
  eluR bcast_S_S16384x64 (addf
    (Host.dotGeneral dot_S16384x64_S64x64_S16384x64_1_0_0_1_n_n none
      (eluR bcast_S_S16384x64 (addf (Host.dotGeneral dot_S16384x8_S8x64_S16384x64_1_0_0_1_n_n none x w1)
        (broadcastInDim S16384x64 ![0, 1] bcast_S1x64_S16384x64_0_1 (broadcastInDim S1x64 ![1] bcast_S64_S1x64_1 b1)))) w2)
    (broadcastInDim S16384x64 ![0, 1] bcast_S1x64_S16384x64_0_1 (broadcastInDim S1x64 ![1] bcast_S64_S1x64_1 b2)))

/-- The two output layers. -/
def decodeR (x : FVec Ideal S16384x64 .f32) (w1 : FVec Ideal S64x32 .f32) (b1 : FVec Ideal S32 .f32) (w2 : FVec Ideal S32x16 .f32)
    (b2 : FVec Ideal S16 .f32) : FVec Ideal S16384x16 .f32 :=
  addf (Host.dotGeneral dot_S16384x32_S32x16_S16384x16_1_0_0_1_n_n none
      (eluR bcast_S_S16384x32 (addf (Host.dotGeneral dot_S16384x64_S64x32_S16384x32_1_0_0_1_n_n none x w1)
        (broadcastInDim S16384x32 ![0, 1] bcast_S1x32_S16384x32_0_1 (broadcastInDim S1x32 ![1] bcast_S32_S1x32_1 b1)))) w2)
    (broadcastInDim S16384x16 ![0, 1] bcast_S1x16_S16384x16_0_1 (broadcastInDim S1x16 ![1] bcast_S16_S1x16_1 b2))

/-! ## The reference's named terms are these functions -/

open Cert.ReferenceIdeal.Value

variable (V0 : Valuation τ sig (Elt Ideal))

/-- An argument array of the reference. -/
abbrev argR (r : Ref sig .tc) : (Proc.devRef (τ := τ) .tc r : DevRef τ sig).ty.Contents (Elt Ideal) := V0 (Proc.devRef .tc r)

theorem v10_eq : res_main_v10 V0
    = cloudsR (encodeR (argR V0 main_arg0) (argR V0 main_arg2) (argR V0 main_arg3) (argR V0 main_arg4) (argR V0 main_arg5)) := rfl

theorem v41_eq : res_main_v41 V0 = cloudsR (flatR (edgeR (res_main_v10 V0) (argR V0 main_arg6) (argR V0 main_arg7))) := rfl

theorem v72_eq : res_main_v72 V0 = cloudsR (flatR (edgeR (res_main_v41 V0) (argR V0 main_arg8) (argR V0 main_arg9))) := rfl

theorem v103_eq : res_main_v103 V0 = cloudsR (flatR (edgeR (res_main_v72 V0) (argR V0 main_arg10) (argR V0 main_arg11))) := rfl

/-- The reference's result, from its arguments. -/
def netR (x : FVec Ideal S16384x8 .f32) (w1 : FVec Ideal S8x64 .f32) (b1 : FVec Ideal S64 .f32) (w2 : FVec Ideal S64x64 .f32)
    (b2 : FVec Ideal S64 .f32) (we1 : FVec Ideal S128x64 .f32) (be1 : FVec Ideal S64 .f32) (we2 : FVec Ideal S128x64 .f32)
    (be2 : FVec Ideal S64 .f32) (we3 : FVec Ideal S128x64 .f32) (be3 : FVec Ideal S64 .f32) (we4 : FVec Ideal S128x64 .f32)
    (be4 : FVec Ideal S64 .f32) (wo1 : FVec Ideal S64x32 .f32) (bo1 : FVec Ideal S32 .f32) (wo2 : FVec Ideal S32x16 .f32)
    (bo2 : FVec Ideal S16 .f32) : FVec Ideal S16384x16 .f32 :=
  decodeR (flatR (edgeR (cloudsR (flatR (edgeR (cloudsR (flatR (edgeR (cloudsR (flatR (edgeR (cloudsR (encodeR x w1 b1 w2 b2))
    we1 be1))) we2 be2))) we3 be3))) we4 be4)) wo1 bo1 wo2 bo2

/-- What the reference's run leaves in its result is `netR` of the arguments. -/
theorem v142_eq : val3 V0 (Proc.devRef .tc main_v142)
    = netR (argR V0 main_arg0) (argR V0 main_arg2) (argR V0 main_arg3) (argR V0 main_arg4) (argR V0 main_arg5) (argR V0 main_arg6)
        (argR V0 main_arg7) (argR V0 main_arg8) (argR V0 main_arg9) (argR V0 main_arg10) (argR V0 main_arg11) (argR V0 main_arg12)
        (argR V0 main_arg13) (argR V0 main_arg14) (argR V0 main_arg15) (argR V0 main_arg16) (argR V0 main_arg17) := by
  rw [val3_main_v142]
  unfold netR
  rw [← v10_eq, ← v41_eq, ← v72_eq, ← v103_eq]
  rfl

end Dgcnn
-- ==== Proof.Dgcnn.CloudAt.lean ====
/-
  The entries of the reference's functions, where their inputs are real numbers.

  The features of the clouds are given as `∀ b i k, x (ix3 b i k) = (xr b i k : EReal)`. `near xr b i k` is the point the reference
  sorts to place `k` among the points of cloud `b` by their distance to point `i`.
-/
module

public import proofs.«01_k».proof.Proof.Dgcnn.Cloud
public import proofs.«01_k».proof.Proof.Dgcnn.Scalars
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Facts₀

namespace Dgcnn

theorem eluR_at {s : Shape} (hb : S_.BroadcastsInDim s ![]) (v : FVec Ideal s .f32) (j : s.Idx) (r : ℝ) (h : v j = (r : EReal)) :
    eluR hb v j = (elu r : EReal) := by
  pointwise [eluR, id_eq]
  rw [h, ← elu_exp r, one_mul]

/-! ## The nearest points -/

section
variable {x : FVec Ideal S32x512x64 .f32} {xr : Fin 32 → Fin 512 → Fin 64 → ℝ} (hx : ∀ b i k, x (ix3 b i k) = (xr b i k : EReal))

include hx in
theorem closeR_at (b : Fin 32) (i j : Fin 512) : closeR x (ix3 b i j) = ((-dist (xr b) i j : ℝ) : EReal) := by
  pointwise [closeR, normR]
  simp only [hx, coe_dot, ofBits_two, ← EReal.coe_mul, ← EReal.coe_add, ← EReal.coe_sub, ← EReal.coe_neg]
  rfl

/-- The point in place `k` of the points of cloud `b`, sorted by their distance to point `i`. -/
def near (xr : Fin 32 → Fin 512 → Fin 64 → ℝ) (b : Fin 32) (i : Fin 512) (k : Fin 24) : Fin 512 :=
  sortedFrom (fun j j' => decide (dist (xr b) i j < dist (xr b) i j')) ⟨k.val, by omega⟩

/-- Comparing two negated real numbers. -/
theorem cmpfTotal_neg (a c : ℝ) :
    (FloatOps.cmpfTotal (F := Ideal) (φ := .f32) .gt ((-a : ℝ) : EReal) ((-c : ℝ) : EReal) == 1#1) = decide (a < c) := by
  show (Ideal.cmp .ogt ((-a : ℝ) : EReal) ((-c : ℝ) : EReal) == 1#1) = decide (a < c)
  by_cases h : a < c
  · have : ((-c : ℝ) : EReal) < ((-a : ℝ) : EReal) := EReal.coe_lt_coe_iff.2 (by linarith)
    simp [Ideal.cmp, h, this]
  · have : ¬ ((-c : ℝ) : EReal) < ((-a : ℝ) : EReal) := fun h' => h (by have := EReal.coe_lt_coe_iff.1 h'; linarith)
    simp [Ideal.cmp, h, this]

omit hx in
/-- The numbers a `topK` along the points returns: those of the points in sorted order. -/
theorem topK_at (cmp : Ideal .f32 → Ideal .f32 → BitVec 1) (c : FVec Ideal S32x512x512 .f32) (b : Fin 32) (i : Fin 512) (k : Fin 24) :
    (Host.topK S32x512x24 2 cmp c sliceFits_S32x512x512_S32x512x24).2 (ix3 b i k)
      = BitVec.ofNat 32 (sortedFrom (fun j j' : Fin 512 => cmp (c (ix3 b i j)) (c (ix3 b i j')) == 1#1) ⟨k.val, by omega⟩).val := by
  unfold Host.topK
  pointwise
  unfold Host.sort2
  have hd : 2 < S32x512x512.rank := by decide
  rw [dif_pos hd]
  have ha : ∀ j : Fin 512, (ix3 b i ⟨k.val, by omega⟩ : S32x512x512.Idx).along ⟨2, hd⟩ j = ix3 b i j := fun j => by
    funext a; fin_cases a <;> rfl
  have hc : (fun j j' : Fin 512 => cmp (c ((ix3 b i ⟨k.val, by omega⟩ : S32x512x512.Idx).along ⟨2, hd⟩ j))
      (c ((ix3 b i ⟨k.val, by omega⟩ : S32x512x512.Idx).along ⟨2, hd⟩ j')) == 1#1)
      = fun j j' => cmp (c (ix3 b i j)) (c (ix3 b i j')) == 1#1 := by
    funext j j'
    rw [ha, ha]
  dsimp only
  rw [← hc]
  have h2 : ∀ p : Fin 512, ((ix3 b i ⟨k.val, by omega⟩ : S32x512x512.Idx).along ⟨2, hd⟩ p 2).val = p.val := fun p =>
    congrArg (fun q : S32x512x512.Idx => (q 2).val) (ha p)
  exact congrArg (BitVec.ofNat 32) (h2 _)

include hx in
theorem idxR_at (b : Fin 32) (i : Fin 512) (k : Fin 24) : idxR x (ix3 b i k) = BitVec.ofNat 32 (near xr b i k).val := by
  unfold idxR near
  rw [topK_at]
  have hc : (fun j j' : Fin 512 => FloatOps.cmpfTotal (F := Ideal) .gt (closeR x (ix3 b i j)) (closeR x (ix3 b i j')) == 1#1)
      = fun j j' => decide (dist (xr b) i j < dist (xr b) i j') := by
    funext j j'
    rw [closeR_at hx, closeR_at hx, cmpfTotal_neg]
  rw [hc]

/-- A point's number is not negative, so it is not counted from the end. -/
theorem wrapR_at {n : IVec S32x512x24 32} {b : Fin 32} {i : Fin 512} {k : Fin 24} {p : Fin 512} (hn : n (ix3 b i k) = BitVec.ofNat 32 p.val) :
    wrapR n (ix3 b i k) = BitVec.ofNat 32 p.val := by
  have h : IntOp.cmpi .slt (BitVec.ofNat 32 p.val) 0#32 = 0#1 := by
    have : (BitVec.ofNat 32 p.val).toInt = p.val := by
      rw [BitVec.toInt_eq_toNat_of_lt (by rw [BitVec.toNat_ofNat]; omega), BitVec.toNat_ofNat]; omega
    have h0 : (0#32 : BitVec 32).toInt = 0 := by decide
    have : ¬ (BitVec.ofNat 32 p.val).slt 0#32 := by rw [BitVec.slt_iff_toInt_lt]; omega
    simp [IntOp.cmpi, this]
  pointwise [wrapR]
  rw [hn, h]
  simp [Scalar.select]

theorem gatherR_at {n : IVec S32x512x24 32} {b : Fin 32} {i : Fin 512} {k : Fin 24} {p : Fin 512} (hn : n (ix3 b i k) = BitVec.ofNat 32 p.val)
    (h : Fin 64) : gatherR x n (ix4 b i k h) = x (ix3 b p h) := by
  unfold gatherR Host.gather
  refine congrArg x (funext fun a => Fin.ext ?_)
  unfold GatherDims.operandIdx
  have hi : ∀ c, gather_S32x512x64_S32x512x24x1_S32x512x24x64_3_1_0_0_1_3_1164.siIdx (ix4 b i k h) c = ix4 b i k 0 := fun c => by
    funext a
    fin_cases a
    · rfl
    · rfl
    · rfl
    · exact Subsingleton.elim (α := Fin 1) _ _
  have hv : broadcastInDim S32x512x24x1 ![0, 1, 2] bcast_S32x512x24_S32x512x24x1_0_1_2 n (ix4 b i k 0) = BitVec.ofNat 32 p.val := by
    pointwise
    exact hn
  have hp : (BitVec.ofNat 32 p.val).toInt.toNat = p.val := by
    rw [BitVec.toInt_eq_toNat_of_lt (by rw [BitVec.toNat_ofNat]; omega), BitVec.toNat_ofNat]
    omega
  fin_cases a
  · show 0 + b.val + 0 = b.val
    omega
  · show min (broadcastInDim S32x512x24x1 ![0, 1, 2] bcast_S32x512x24_S32x512x24x1_0_1_2 n
        (gather_S32x512x64_S32x512x24x1_S32x512x24x64_3_1_0_0_1_3_1164.siIdx (ix4 b i k h) ⟨0, by decide⟩)).toInt.toNat 511 + 0 + 0 = p.val
    rw [hi, hv, hp]
    omega
  · show 0 + 0 + h.val = h.val
    omega

/-! ## The edge layer -/

variable {w : FVec Ideal S128x64 .f32} {c : FVec Ideal S64 .f32} {W : Fin 128 → Fin 64 → ℝ} {β : Fin 64 → ℝ}
  (hw : ∀ k h, w (ix2 k h) = (W k h : EReal)) (hc : ∀ h, c (ix1 h) = (β h : EReal))

include hx hw hc in
theorem preR_at (b : Fin 32) (i : Fin 512) (k : Fin 24) (h : Fin 64) :
    preR x w c (ix4 b i k h) = (lin W β (pair (xr b) i (near xr b i k)) h : EReal) := by
  have hg := gatherR_at (x := x) (wrapR_at (idxR_at hx b i k))
  pointwise [preR, pairR, ownR]
  simp only [hg, hx, hw, hc, ← EReal.coe_sub]
  rw [pair_sum (xr b) i (near xr b i k) fun k => (W k h : EReal), coe_dot, ← EReal.coe_add]
  rfl

include hx hw hc in
/-- One edge layer of the reference is the edge layer of the network, on every cloud. -/
theorem edgeR_at (b : Fin 32) (i : Fin 512) (h : Fin 64) : edgeR x w c (ix3 b i h) = (edge W β (xr b) i h : EReal) := by
  have he : ∀ k, eluR bcast_S_S32x512x24x64 (preR x w c) (ix4 b i k h) = (message W β (xr b) i (near xr b i k) h : EReal) := fun k =>
    eluR_at _ _ _ _ (preR_at hx hw hc b i k h)
  have hn : ∀ k, near xr b i k ∈ nearest (dist (xr b) i) 24 := fun k => (mem_nearest_iff_sorted _ _ _).2 ⟨_, k.isLt, rfl⟩
  pointwise [edgeR]
  simp only [he, ofBits_bot]
  obtain ⟨j, hj, e⟩ := Finset.exists_mem_eq_sup' (nearest_nonempty (dist (xr b) i)) fun j => message W β (xr b) i j h
  obtain ⟨r, hr, rfl⟩ := (mem_nearest_iff_sorted _ _ _).1 hj
  have hedge : edge W β (xr b) i h = message W β (xr b) i (near xr b i ⟨r.val, hr⟩) h := e
  rw [hedge]
  refine fold_univ_eq max ⊥ (fun k => (message W β (xr b) i (near xr b i k) h : EReal)) ⟨r.val, hr⟩ (max_eq_left bot_le) fun k =>
    max_eq_left (EReal.coe_le_coe_iff.2 ?_)
  rw [← hedge]
  exact Finset.le_sup' (fun j => message W β (xr b) i j h) (hn k)

end

/-! ## The whole reference -/

/-- The place of point `i` of cloud `b` in the list of all points. -/
def row (b : Fin 32) (i : Fin 512) : Fin 16384 := ⟨b.val * 512 + i.val, by omega⟩

theorem cloudsR_flatR (x : FVec Ideal S32x512x64 .f32) : cloudsR (flatR x) = x := by
  funext j
  idx_vars j
  pointwise [cloudsR, flatR]

theorem cloudsR_at (x : FVec Ideal S16384x64 .f32) (b : Fin 32) (i : Fin 512) (h : Fin 64) : cloudsR x (ix3 b i h) = x (ix2 (row b i) h) := by
  pointwise [cloudsR]
  rfl

theorem flatR_at (x : FVec Ideal S32x512x64 .f32) (b : Fin 32) (i : Fin 512) (h : Fin 64) : flatR x (ix2 (row b i) h) = x (ix3 b i h) := by
  have e := congrFun (cloudsR_flatR x) (ix3 b i h)
  rwa [cloudsR_at] at e

theorem encodeR_at {P : Params} {xr : Fin 32 → Fin 512 → Fin 8 → ℝ} {x : FVec Ideal S16384x8 .f32} {w1 : FVec Ideal S8x64 .f32}
    {b1 : FVec Ideal S64 .f32} {w2 : FVec Ideal S64x64 .f32} {b2 : FVec Ideal S64 .f32}
    (hx : ∀ b i k, x (ix2 (row b i) k) = (xr b i k : EReal)) (h1 : ∀ k h, w1 (ix2 k h) = (P.W1 k h : EReal))
    (h2 : ∀ h, b1 (ix1 h) = (P.b1 h : EReal)) (h3 : ∀ k h, w2 (ix2 k h) = (P.W2 k h : EReal)) (h4 : ∀ h, b2 (ix1 h) = (P.b2 h : EReal))
    (b : Fin 32) (i : Fin 512) (h : Fin 64) : encodeR x w1 b1 w2 b2 (ix2 (row b i) h) = (encode P (xr b) i h : EReal) := by
  unfold encodeR
  refine eluR_at _ _ _ (lin P.W2 P.b2 (act P.W1 P.b1 (xr b) i) h) ?_
  have e : ∀ k, eluR bcast_S_S16384x64 (addf (Host.dotGeneral dot_S16384x8_S8x64_S16384x64_1_0_0_1_n_n none x w1)
      (broadcastInDim S16384x64 ![0, 1] bcast_S1x64_S16384x64_0_1 (broadcastInDim S1x64 ![1] bcast_S64_S1x64_1 b1))) (ix2 (row b i) k)
      = (act P.W1 P.b1 (xr b) i k : EReal) := fun k => by
    refine eluR_at _ _ _ (lin P.W1 P.b1 (xr b i) k) ?_
    pointwise
    simp only [hx, h1, h2, coe_dot, ← EReal.coe_add]
    rfl
  generalize eluR _ _ = y at e ⊢
  pointwise
  simp only [e, h3, h4, coe_dot, ← EReal.coe_add]
  rfl

theorem decodeR_at {P : Params} {xr : Fin 32 → Fin 512 → Fin 64 → ℝ} {x : FVec Ideal S16384x64 .f32} {w1 : FVec Ideal S64x32 .f32}
    {b1 : FVec Ideal S32 .f32} {w2 : FVec Ideal S32x16 .f32} {b2 : FVec Ideal S16 .f32}
    (hx : ∀ b i k, x (ix2 (row b i) k) = (xr b i k : EReal)) (h1 : ∀ k h, w1 (ix2 k h) = (P.Wo1 k h : EReal))
    (h2 : ∀ h, b1 (ix1 h) = (P.bo1 h : EReal)) (h3 : ∀ k h, w2 (ix2 k h) = (P.Wo2 k h : EReal)) (h4 : ∀ h, b2 (ix1 h) = (P.bo2 h : EReal))
    (b : Fin 32) (i : Fin 512) (o : Fin 16) :
    decodeR x w1 b1 w2 b2 (ix2 (row b i) o) = (lin P.Wo2 P.bo2 (act P.Wo1 P.bo1 (xr b) i) o : EReal) := by
  unfold decodeR
  have e : ∀ k, eluR bcast_S_S16384x32 (addf (Host.dotGeneral dot_S16384x64_S64x32_S16384x32_1_0_0_1_n_n none x w1)
      (broadcastInDim S16384x32 ![0, 1] bcast_S1x32_S16384x32_0_1 (broadcastInDim S1x32 ![1] bcast_S32_S1x32_1 b1))) (ix2 (row b i) k)
      = (act P.Wo1 P.bo1 (xr b) i k : EReal) := fun k => by
    refine eluR_at _ _ _ (lin P.Wo1 P.bo1 (xr b i) k) ?_
    pointwise
    simp only [hx, h1, h2, coe_dot, ← EReal.coe_add]
    rfl
  generalize eluR _ _ = y at e ⊢
  pointwise
  simp only [e, h3, h4, coe_dot, ← EReal.coe_add]
  rfl

/-- The reference's result, where its arguments hold the clouds and the parameters `P`. -/
theorem netR_at {P : Params} {xr : Fin 32 → Fin 512 → Fin 8 → ℝ} {x : FVec Ideal S16384x8 .f32} {w1 : FVec Ideal S8x64 .f32}
    {b1 : FVec Ideal S64 .f32} {w2 : FVec Ideal S64x64 .f32} {b2 : FVec Ideal S64 .f32} {we1 : FVec Ideal S128x64 .f32}
    {be1 : FVec Ideal S64 .f32} {we2 : FVec Ideal S128x64 .f32} {be2 : FVec Ideal S64 .f32} {we3 : FVec Ideal S128x64 .f32}
    {be3 : FVec Ideal S64 .f32} {we4 : FVec Ideal S128x64 .f32} {be4 : FVec Ideal S64 .f32} {wo1 : FVec Ideal S64x32 .f32}
    {bo1 : FVec Ideal S32 .f32} {wo2 : FVec Ideal S32x16 .f32} {bo2 : FVec Ideal S16 .f32}
    (hx : ∀ b i k, x (ix2 (row b i) k) = (xr b i k : EReal)) (h1 : ∀ k h, w1 (ix2 k h) = (P.W1 k h : EReal))
    (h2 : ∀ h, b1 (ix1 h) = (P.b1 h : EReal)) (h3 : ∀ k h, w2 (ix2 k h) = (P.W2 k h : EReal)) (h4 : ∀ h, b2 (ix1 h) = (P.b2 h : EReal))
    (h5 : ∀ k h, we1 (ix2 k h) = (P.We1 k h : EReal)) (h6 : ∀ h, be1 (ix1 h) = (P.be1 h : EReal))
    (h7 : ∀ k h, we2 (ix2 k h) = (P.We2 k h : EReal)) (h8 : ∀ h, be2 (ix1 h) = (P.be2 h : EReal))
    (h9 : ∀ k h, we3 (ix2 k h) = (P.We3 k h : EReal)) (h10 : ∀ h, be3 (ix1 h) = (P.be3 h : EReal))
    (h11 : ∀ k h, we4 (ix2 k h) = (P.We4 k h : EReal)) (h12 : ∀ h, be4 (ix1 h) = (P.be4 h : EReal))
    (h13 : ∀ k h, wo1 (ix2 k h) = (P.Wo1 k h : EReal)) (h14 : ∀ h, bo1 (ix1 h) = (P.bo1 h : EReal))
    (h15 : ∀ k h, wo2 (ix2 k h) = (P.Wo2 k h : EReal)) (h16 : ∀ h, bo2 (ix1 h) = (P.bo2 h : EReal))
    (b : Fin 32) (i : Fin 512) (o : Fin 16) :
    netR x w1 b1 w2 b2 we1 be1 we2 be2 we3 be3 we4 be4 wo1 bo1 wo2 bo2 (ix2 (row b i) o) = (net P (xr b) i o : EReal) := by
  unfold netR
  rw [cloudsR_flatR, cloudsR_flatR, cloudsR_flatR]
  have e0 : ∀ b i h, cloudsR (encodeR x w1 b1 w2 b2) (ix3 b i h) = (encode P (xr b) i h : EReal) := fun b i h => by
    rw [cloudsR_at]; exact encodeR_at hx h1 h2 h3 h4 b i h
  have e1 := edgeR_at (xr := fun b => encode P (xr b)) e0 h5 h6
  have e2 := edgeR_at (xr := fun b => edge P.We1 P.be1 (encode P (xr b))) e1 h7 h8
  have e3 := edgeR_at (xr := fun b => edge P.We2 P.be2 (edge P.We1 P.be1 (encode P (xr b)))) e2 h9 h10
  have e4 := edgeR_at (xr := fun b => edge P.We3 P.be3 (edge P.We2 P.be2 (edge P.We1 P.be1 (encode P (xr b))))) e3 h11 h12
  exact decodeR_at (xr := fun b => edges P (xr b)) (fun b i k => (flatR_at _ b i k).trans (e4 b i k)) h13 h14 h15 h16 b i o

end Dgcnn
-- ==== Proof.Dgcnn.Inputs.lean ====
/-
  What it means that the arrays of the problem hold real numbers.

  `Inputs P xr x w1 b1 …` says that the array `x` holds the features `xr` of 32 clouds of 512 points each, cloud after cloud, and that the
  arrays of weights hold the parameters `P`.
-/
module

public import proofs.«01_k».proof.Proof.Dgcnn.CloudAt

@[expose] public section

noncomputable section

open Idealize.ShloMosaic Idealize.ShloMosaic.TcCoe Idealize.SL.Sem
open Cert.ReferenceIdeal

namespace Dgcnn

/-- The seventeen float arrays hold the features `xr` and the parameters `P`. -/
structure Inputs (P : Params) (xr : Fin 32 → Fin 512 → Fin 8 → ℝ) (x : FVec Ideal S16384x8 .f32) (w1 : FVec Ideal S8x64 .f32)
    (b1 : FVec Ideal S64 .f32) (w2 : FVec Ideal S64x64 .f32) (b2 : FVec Ideal S64 .f32) (we1 : FVec Ideal S128x64 .f32)
    (be1 : FVec Ideal S64 .f32) (we2 : FVec Ideal S128x64 .f32) (be2 : FVec Ideal S64 .f32) (we3 : FVec Ideal S128x64 .f32)
    (be3 : FVec Ideal S64 .f32) (we4 : FVec Ideal S128x64 .f32) (be4 : FVec Ideal S64 .f32) (wo1 : FVec Ideal S64x32 .f32)
    (bo1 : FVec Ideal S32 .f32) (wo2 : FVec Ideal S32x16 .f32) (bo2 : FVec Ideal S16 .f32) : Prop where
  x : ∀ b i k, x (ix2 (row b i) k) = (xr b i k : EReal)
  w1 : ∀ k h, w1 (ix2 k h) = (P.W1 k h : EReal)
  b1 : ∀ h, b1 (ix1 h) = (P.b1 h : EReal)
  w2 : ∀ k h, w2 (ix2 k h) = (P.W2 k h : EReal)
  b2 : ∀ h, b2 (ix1 h) = (P.b2 h : EReal)
  we1 : ∀ k h, we1 (ix2 k h) = (P.We1 k h : EReal)
  be1 : ∀ h, be1 (ix1 h) = (P.be1 h : EReal)
  we2 : ∀ k h, we2 (ix2 k h) = (P.We2 k h : EReal)
  be2 : ∀ h, be2 (ix1 h) = (P.be2 h : EReal)
  we3 : ∀ k h, we3 (ix2 k h) = (P.We3 k h : EReal)
  be3 : ∀ h, be3 (ix1 h) = (P.be3 h : EReal)
  we4 : ∀ k h, we4 (ix2 k h) = (P.We4 k h : EReal)
  be4 : ∀ h, be4 (ix1 h) = (P.be4 h : EReal)
  wo1 : ∀ k h, wo1 (ix2 k h) = (P.Wo1 k h : EReal)
  bo1 : ∀ h, bo1 (ix1 h) = (P.bo1 h : EReal)
  wo2 : ∀ k h, wo2 (ix2 k h) = (P.Wo2 k h : EReal)
  bo2 : ∀ h, bo2 (ix1 h) = (P.bo2 h : EReal)

/-- The result for the features `xr`: row `r` is point `r % 512` of cloud `r / 512`. -/
def result (P : Params) (xr : Fin 32 → Fin 512 → Fin 8 → ℝ) : FVec Ideal S16384x16 .f32 := fun j =>
  ((net P (xr ⟨(j 0).val / 512, by have : (j 0).val < 16384 := (j 0).isLt; omega⟩) ⟨(j 0).val % 512, by omega⟩ (j 1) : ℝ) : EReal)

theorem result_at (P : Params) (xr : Fin 32 → Fin 512 → Fin 8 → ℝ) (b : Fin 32) (i : Fin 512) (o : Fin 16) :
    result P xr (ix2 (row b i) o) = (net P (xr b) i o : EReal) := by
  have e : ∀ (b' : Fin 32) (i' : Fin 512), b' = b → i' = i → ((net P (xr b') i' o : ℝ) : EReal) = (net P (xr b) i o : EReal) := by
    rintro _ _ rfl rfl; rfl
  refine e _ _ (Fin.ext ?_) (Fin.ext ?_)
  · show (b.val * 512 + i.val) / 512 = b.val
    omega
  · show (b.val * 512 + i.val) % 512 = i.val
    omega

/-- Every row of the result belongs to one point of one cloud. -/
theorem exists_row (j : S16384x16.Idx) : ∃ b i o, j = ix2 (row b i) o := by
  have h : (j 0).val < 16384 := (j 0).isLt
  refine ⟨⟨(j 0).val / 512, by omega⟩, ⟨(j 0).val % 512, by omega⟩, j 1, ?_⟩
  funext a
  match a with
  | ⟨0, _⟩ => refine Fin.ext ?_; show (j 0).val = (j 0).val / 512 * 512 + (j 0).val % 512; omega
  | ⟨1, _⟩ => rfl

/-- The reference's result is `result`. -/
theorem netR_eq {P : Params} {xr : Fin 32 → Fin 512 → Fin 8 → ℝ} {x : FVec Ideal S16384x8 .f32} {w1 : FVec Ideal S8x64 .f32}
    {b1 : FVec Ideal S64 .f32} {w2 : FVec Ideal S64x64 .f32} {b2 : FVec Ideal S64 .f32} {we1 : FVec Ideal S128x64 .f32}
    {be1 : FVec Ideal S64 .f32} {we2 : FVec Ideal S128x64 .f32} {be2 : FVec Ideal S64 .f32} {we3 : FVec Ideal S128x64 .f32}
    {be3 : FVec Ideal S64 .f32} {we4 : FVec Ideal S128x64 .f32} {be4 : FVec Ideal S64 .f32} {wo1 : FVec Ideal S64x32 .f32}
    {bo1 : FVec Ideal S32 .f32} {wo2 : FVec Ideal S32x16 .f32} {bo2 : FVec Ideal S16 .f32}
    (H : Inputs P xr x w1 b1 w2 b2 we1 be1 we2 be2 we3 be3 we4 be4 wo1 bo1 wo2 bo2) :
    netR x w1 b1 w2 b2 we1 be1 we2 be2 we3 be3 we4 be4 wo1 bo1 wo2 bo2 = result P xr := by
  funext j
  obtain ⟨b, i, o, rfl⟩ := exists_row j
  rw [result_at]
  exact netR_at H.x H.w1 H.b1 H.w2 H.b2 H.we1 H.be1 H.we2 H.be2 H.we3 H.be3 H.we4 H.be4 H.wo1 H.bo1 H.wo2 H.bo2 b i o

end Dgcnn
-- ==== Proof.Dgcnn.Array.lean ====
/-
  What the kernel's result array holds after its 32 grid points.

  Point `t` reads rows `512 t … 512 t + 511` of the features — cloud `t` — and all of every array of weights (a bias as one row), and
  writes the same rows of the result. So the result array is `result P xr` where the arguments hold `xr` and `P`.
-/
module

public import proofs.«01_k».proof.Proof.Dgcnn.Run
public import proofs.«01_k».proof.Proof.Dgcnn.BlockNet
public import proofs.«01_k».proof.Proof.Dgcnn.Inputs
public import proofs.«01_k».proof.Proof.Gen.KernelIdeal.Value
public import Idealize.ShloMosaic.Lib.Claim
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen
open Idealize.ShloMosaic.Pipeline (Dat)

namespace Dgcnn

variable (m : (ℓ : Loc nD τ sig) → Buf (Elt Ideal) ℓ) (c : Dev nD)

/-- The cloud of a grid point. -/
def cloud (t : Fin cfg0.N) : Fin 32 := ⟨t.val, t.isLt⟩

/-- Block `t` of the features and of the result starts at row `512 t`. -/
theorem idx_rows : ∀ t : Fin cfg0.N, win0_0.index t = ![t.val, 0] ∧ win0_17.index t = ![t.val, 0] :=
  (by decide +kernel : ∀ t : Fin grid0.N, _)

/-- Every other window's block is its whole array. -/
theorem idx_whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0] ∧ win0_15.index t = ![0, 0]
    ∧ win0_16.index t = ![0, 0] :=
  (by decide +kernel : ∀ t : Fin grid0.N, _)

theorem block_x (t : Fin cfg0.N) (i : Fin 512) (k : Fin 8) :
    iblk m c 0 t (ix2 i k) = m ((c : Thread nD τ).loc main_arg0) (ix2 (row (cloud t) i) k) := by
  unfold row cloud
  blk_ext! [iblk, V, idx_rows t]

/-- The blocks of the weight matrices are the matrices. -/
theorem block_weights (t : Fin cfg0.N) :
    (∀ k h, iblk m c 1 t (ix2 k h) = m ((c : Thread nD τ).loc main_arg2) (ix2 k h))
    ∧ (∀ k h, iblk m c 3 t (ix2 k h) = m ((c : Thread nD τ).loc main_arg4) (ix2 k h))
    ∧ (∀ k h, iblk m c 5 t (ix2 k h) = m ((c : Thread nD τ).loc main_arg6) (ix2 k h))
    ∧ (∀ k h, iblk m c 7 t (ix2 k h) = m ((c : Thread nD τ).loc main_arg8) (ix2 k h))
    ∧ (∀ k h, iblk m c 9 t (ix2 k h) = m ((c : Thread nD τ).loc main_arg10) (ix2 k h))
    ∧ (∀ k h, iblk m c 11 t (ix2 k h) = m ((c : Thread nD τ).loc main_arg12) (ix2 k h))
    ∧ (∀ k h, iblk m c 13 t (ix2 k h) = m ((c : Thread nD τ).loc main_arg14) (ix2 k h))
    ∧ (∀ k h, iblk m c 15 t (ix2 k h) = m ((c : Thread nD τ).loc main_arg16) (ix2 k h)) := by
  refine ⟨fun k h => ?_, fun k h => ?_, fun k h => ?_, fun k h => ?_, fun k h => ?_, fun k h => ?_, fun k h => ?_, fun k h => ?_⟩ <;>
    blk_ext! [iblk, V, idx_whole t]

set_option maxHeartbeats 2000000 in
/-- The blocks of the biases are the biases, each as one row. -/
theorem block_biases (t : Fin cfg0.N) :
    (∀ h, iblk m c 2 t (ix2 0 h) = m ((c : Thread nD τ).loc main_arg3) (ix1 h))
    ∧ (∀ h, iblk m c 4 t (ix2 0 h) = m ((c : Thread nD τ).loc main_arg5) (ix1 h))
    ∧ (∀ h, iblk m c 6 t (ix2 0 h) = m ((c : Thread nD τ).loc main_arg7) (ix1 h))
    ∧ (∀ h, iblk m c 8 t (ix2 0 h) = m ((c : Thread nD τ).loc main_arg9) (ix1 h))
    ∧ (∀ h, iblk m c 10 t (ix2 0 h) = m ((c : Thread nD τ).loc main_arg11) (ix1 h))
    ∧ (∀ h, iblk m c 12 t (ix2 0 h) = m ((c : Thread nD τ).loc main_arg13) (ix1 h))
    ∧ (∀ h, iblk m c 14 t (ix2 0 h) = m ((c : Thread nD τ).loc main_arg15) (ix1 h))
    ∧ (∀ h, iblk m c 16 t (ix2 0 h) = m ((c : Thread nD τ).loc main_arg17) (ix1 h)) := by
  refine ⟨fun h => ?_, fun h => ?_, fun h => ?_, fun h => ?_, fun h => ?_, fun h => ?_, fun h => ?_, fun h => ?_⟩ <;>
    blk_ext! [iblk, V, idx_whole t]

variable {m c}

/-- What point `t` leaves in the output's staging buffer. -/
theorem point_at {P : Params} {xr : Fin 32 → Fin 512 → Fin 8 → ℝ}
    (H : Inputs P xr (m ((c : Thread nD τ).loc main_arg0)) (m ((c : Thread nD τ).loc main_arg2)) (m ((c : Thread nD τ).loc main_arg3)) (m ((c : Thread
      nD τ).loc main_arg4)) (m ((c : Thread nD τ).loc main_arg5)) (m ((c : Thread nD τ).loc main_arg6)) (m ((c : Thread nD τ).loc
      main_arg7)) (m ((c : Thread nD τ).loc main_arg8)) (m ((c : Thread nD τ).loc main_arg9)) (m ((c : Thread nD τ).loc main_arg10)) (m
      ((c : Thread nD τ).loc main_arg11)) (m ((c : Thread nD τ).loc main_arg12)) (m ((c : Thread nD τ).loc main_arg13)) (m ((c : Thread
      nD τ).loc main_arg14)) (m ((c : Thread nD τ).loc main_arg15)) (m ((c : Thread nD τ).loc main_arg16)) (m ((c : Thread nD τ).loc
      main_arg17)))
    (t : Fin cfg0.N) (i : Fin 512) (o : Fin 16) : outsAt0 m c t (ix2 i o) = (net P (xr (cloud t)) i o : EReal) := by
  obtain ⟨w1, w2, we1, we2, we3, we4, wo1, wo2⟩ := block_weights m c t
  obtain ⟨b1, b2, be1, be2, be3, be4, bo1, bo2⟩ := block_biases m c t
  unfold outsAt0
  rw [out_eq]
  exact netV_at (fun i k => (block_x m c t i k).trans (H.x _ i k))
    (fun k h => (w1 k h).trans (H.w1 k h)) (fun h => (b1 h).trans (H.b1 h)) (fun k h => (w2 k h).trans (H.w2 k h)) (fun h => (b2 h).trans (H.b2 h))
    (fun k h => (we1 k h).trans (H.we1 k h)) (fun h => (be1 h).trans (H.be1 h)) (fun k h => (we2 k h).trans (H.we2 k h)) (fun h => (be2 h).trans (H.be2 h))
    (fun k h => (we3 k h).trans (H.we3 k h)) (fun h => (be3 h).trans (H.be3 h)) (fun k h => (we4 k h).trans (H.we4 k h)) (fun h => (be4 h).trans (H.be4 h))
    (fun k h => (wo1 k h).trans (H.wo1 k h)) (fun h => (bo1 h).trans (H.bo1 h)) (fun k h => (wo2 k h).trans (H.wo2 k h)) (fun h => (bo2 h).trans (H.bo2 h)) i o

/-- The result array after the run. -/
theorem array_eq {P : Params} {xr : Fin 32 → Fin 512 → Fin 8 → ℝ}
    (H : Inputs P xr (m ((c : Thread nD τ).loc main_arg0)) (m ((c : Thread nD τ).loc main_arg2)) (m ((c : Thread nD τ).loc main_arg3)) (m ((c : Thread
      nD τ).loc main_arg4)) (m ((c : Thread nD τ).loc main_arg5)) (m ((c : Thread nD τ).loc main_arg6)) (m ((c : Thread nD τ).loc
      main_arg7)) (m ((c : Thread nD τ).loc main_arg8)) (m ((c : Thread nD τ).loc main_arg9)) (m ((c : Thread nD τ).loc main_arg10)) (m
      ((c : Thread nD τ).loc main_arg11)) (m ((c : Thread nD τ).loc main_arg12)) (m ((c : Thread nD τ).loc main_arg13)) (m ((c : Thread
      nD τ).loc main_arg14)) (m ((c : Thread nD τ).loc main_arg15)) (m ((c : Thread nD τ).loc main_arg16)) (m ((c : Thread nD τ).loc
      main_arg17))) :
    (dats m 0 c).arrAt 17 cfg0.N = result P xr := by
  refine (dats m 0 c).arrAt_eq_of_covers 17 _ (by decide +kernel) fun t hf y => ?_
  have e : ((cfg0.win 17).blk t).view.emb y = ix2 (row (cloud t) (y 0)) (y 1) := by
    unfold row cloud
    blk_ext! [idx_rows t]
  have ey : ∀ y : S512x16.Idx, y = ix2 (y 0) (y 1) := fun y => funext fun a => by fin_cases a <;> rfl
  have key : ∀ y : S512x16.Idx, outsAt0 m c t y = result P xr (ix2 (row (cloud t) (y 0)) (y 1)) := fun y =>
    (congrArg (outsAt0 m c t) (ey y)).trans ((point_at H t (y 0) (y 1)).trans (result_at P xr (cloud t) (y 0) (y 1)).symm)
  rw [e, after0_17]
  exact key y

end Dgcnn
-- ==== Proof.Dgcnn.Finite.lean ====
/-
  Arrays whose entries all lie below +∞ in absolute value hold real numbers; from such arrays the features and the parameters are read off.
-/
module

public import proofs.«01_k».proof.Proof.Dgcnn.Inputs

@[expose] public section

noncomputable section

open Idealize.ShloMosaic Idealize.ShloMosaic.TcCoe Idealize.SL.Sem
open Cert.ReferenceIdeal

namespace Dgcnn

/-- Every entry is a real number. -/
def Finite {s : Shape} (a : FVec Ideal s .f32) : Prop := ∀ j, a j = ((a j).toReal : EReal)

/-- What the precondition says of one array: the comparison of its absolute values with +∞ holds at every entry. -/
def Below {s : Shape} (hb : S_.BroadcastsInDim s ![]) (a : FVec Ideal s .f32) : Prop :=
  cmpf .olt (Host.absf a) (broadcastInDim s ![] hb (constant S_ .f32 0x7F800000#32)) = fun _ => 1#1

theorem Below.finite {s : Shape} {hb : S_.BroadcastsInDim s ![]} {a : FVec Ideal s .f32} (h : Below hb a) : Finite a := by
  intro j
  have e := congrFun h j
  pointwise at e
  have e' : max (a j) (-a j) < (⊤ : EReal) := by
    by_contra hn
    rw [ofBits_top] at e
    exact absurd ((congrArg BitVec.ofBool (decide_eq_false hn)).symm.trans e) (by decide)
  have ht : a j ≠ ⊤ := ne_of_lt (lt_of_le_of_lt (le_max_left _ _) e')
  have hb : a j ≠ ⊥ := fun hb => by
    rw [hb] at e'
    exact absurd e' (by simp)
  exact (EReal.coe_toReal ht hb).symm

/-- The parameters the arrays of weights hold. -/
def paramsOf (w1 : FVec Ideal S8x64 .f32) (b1 : FVec Ideal S64 .f32) (w2 : FVec Ideal S64x64 .f32) (b2 : FVec Ideal S64 .f32)
    (we1 : FVec Ideal S128x64 .f32) (be1 : FVec Ideal S64 .f32) (we2 : FVec Ideal S128x64 .f32) (be2 : FVec Ideal S64 .f32)
    (we3 : FVec Ideal S128x64 .f32) (be3 : FVec Ideal S64 .f32) (we4 : FVec Ideal S128x64 .f32) (be4 : FVec Ideal S64 .f32)
    (wo1 : FVec Ideal S64x32 .f32) (bo1 : FVec Ideal S32 .f32) (wo2 : FVec Ideal S32x16 .f32) (bo2 : FVec Ideal S16 .f32) : Params where
  W1 := fun k h => (w1 (ix2 k h)).toReal
  b1 := fun h => (b1 (ix1 h)).toReal
  W2 := fun k h => (w2 (ix2 k h)).toReal
  b2 := fun h => (b2 (ix1 h)).toReal
  We1 := fun k h => (we1 (ix2 k h)).toReal
  be1 := fun h => (be1 (ix1 h)).toReal
  We2 := fun k h => (we2 (ix2 k h)).toReal
  be2 := fun h => (be2 (ix1 h)).toReal
  We3 := fun k h => (we3 (ix2 k h)).toReal
  be3 := fun h => (be3 (ix1 h)).toReal
  We4 := fun k h => (we4 (ix2 k h)).toReal
  be4 := fun h => (be4 (ix1 h)).toReal
  Wo1 := fun k h => (wo1 (ix2 k h)).toReal
  bo1 := fun h => (bo1 (ix1 h)).toReal
  Wo2 := fun k h => (wo2 (ix2 k h)).toReal
  bo2 := fun h => (bo2 (ix1 h)).toReal

/-- The features the array of inputs holds. -/
def featuresOf (x : FVec Ideal S16384x8 .f32) (b : Fin 32) (i : Fin 512) (k : Fin 8) : ℝ := (x (ix2 (row b i) k)).toReal

theorem inputs_of_finite {x : FVec Ideal S16384x8 .f32} {w1 : FVec Ideal S8x64 .f32} {b1 : FVec Ideal S64 .f32} {w2 : FVec Ideal S64x64 .f32} {b2 : FVec Ideal S64 .f32}
    {we1 : FVec Ideal S128x64 .f32} {be1 : FVec Ideal S64 .f32} {we2 : FVec Ideal S128x64 .f32} {be2 : FVec Ideal S64 .f32}
    {we3 : FVec Ideal S128x64 .f32} {be3 : FVec Ideal S64 .f32} {we4 : FVec Ideal S128x64 .f32} {be4 : FVec Ideal S64 .f32}
    {wo1 : FVec Ideal S64x32 .f32} {bo1 : FVec Ideal S32 .f32} {wo2 : FVec Ideal S32x16 .f32} {bo2 : FVec Ideal S16 .f32}
    (hx : Finite x) (hw1 : Finite w1) (hb1 : Finite b1) (hw2 : Finite w2) (hb2 : Finite b2) (hwe1 : Finite we1) (hbe1 : Finite be1)
    (hwe2 : Finite we2) (hbe2 : Finite be2) (hwe3 : Finite we3) (hbe3 : Finite be3) (hwe4 : Finite we4) (hbe4 : Finite be4) (hwo1 : Finite wo1)
    (hbo1 : Finite bo1) (hwo2 : Finite wo2) (hbo2 : Finite bo2) :
    Inputs (paramsOf w1 b1 w2 b2 we1 be1 we2 be2 we3 be3 we4 be4 wo1 bo1 wo2 bo2) (featuresOf x)
      x w1 b1 w2 b2 we1 be1 we2 be2 we3 be3 we4 be4 wo1 bo1 wo2 bo2 :=
  { x := fun _ _ _ => hx _
    w1 := fun _ _ => hw1 _
    b1 := fun _ => hb1 _
    w2 := fun _ _ => hw2 _
    b2 := fun _ => hb2 _
    we1 := fun _ _ => hwe1 _
    be1 := fun _ => hbe1 _
    we2 := fun _ _ => hwe2 _
    be2 := fun _ => hbe2 _
    we3 := fun _ _ => hwe3 _
    be3 := fun _ => hbe3 _
    we4 := fun _ _ => hwe4 _
    be4 := fun _ => hbe4 _
    wo1 := fun _ _ => hwo1 _
    bo1 := fun _ => hbo1 _
    wo2 := fun _ _ => hwo2 _
    bo2 := fun _ => hbo2 _ }

end Dgcnn
-- ==== Proof.lean ====
/-
  The proof of the certificate's claim: the kernel and the reference, on the extended reals, compute the same network at every row, where
  the arguments hold real numbers; both programs leave their arguments and semaphores as they were; and the named constant is the one
  change between the printed kernel and its ideal form.

  `Dgcnn/Order` and `Dgcnn/Model` say on real numbers what is computed; `Dgcnn/Block`, `Payloads`, `Run`, `BlockAt`, `BlockNet` what one
  block of the kernel computes; `Dgcnn/Array` what its result array holds; `Dgcnn/Cloud`, `CloudAt` what the reference computes;
  `Dgcnn/Inputs`, `Finite` what the precondition gives. This file puts them together.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Dgcnn.Array
public import proofs.«01_k».proof.Proof.Dgcnn.Finite
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The side conditions of the precondition: a scalar may be repeated to any shape. -/
theorem preFacts : Cert.Pre_finite_inputs.Facts where
  bcast_S_S16384x8 := by decide
  bcast_S_S8x64 := by decide
  bcast_S_S64 := by decide
  bcast_S_S64x64 := by decide
  bcast_S_S128x64 := by decide
  bcast_S_S64x32 := by decide
  bcast_S_S32 := by decide
  bcast_S_S32x16 := by decide
  bcast_S_S16 := by decide

/-! ## Frames -/

/-- The reference leaves its arguments as they were, and it has no semaphore. -/
theorem frame_reference : Cert.quiescent_ReferenceIdeal := fun m g _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m g)

/-! ## The value claim -/

section
variable [Cert.Pre_finite_inputs.Facts]
variable {m : (ℓ : Loc Cert.KernelIdeal.nD Cert.KernelIdeal.τ Cert.KernelIdeal.sig) → Buf (Elt Ideal) ℓ}

/-- The arguments hold real numbers: the parameters and the features read off them. -/
theorem inputs (h : Cert.Pre_KernelIdeal_finite_inputs m) (c : Dev Cert.KernelIdeal.nD) :
    ∃ P xr, Dgcnn.Inputs P xr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17)) := by
  obtain ⟨h0, h1, h2, h3, h4, h5, h6, h7, h8, h9, h10, h11, h12, h13, h14, h15, h16⟩ := h c
  exact ⟨_, _, Dgcnn.inputs_of_finite
    (Dgcnn.Below.finite (hb := by decide) h0) (Dgcnn.Below.finite (hb := by decide) h1) (Dgcnn.Below.finite (hb := by decide) h2)
    (Dgcnn.Below.finite (hb := by decide) h3) (Dgcnn.Below.finite (hb := by decide) h4) (Dgcnn.Below.finite (hb := by decide) h5)
    (Dgcnn.Below.finite (hb := by decide) h6) (Dgcnn.Below.finite (hb := by decide) h7) (Dgcnn.Below.finite (hb := by decide) h8)
    (Dgcnn.Below.finite (hb := by decide) h9) (Dgcnn.Below.finite (hb := by decide) h10) (Dgcnn.Below.finite (hb := by decide) h11)
    (Dgcnn.Below.finite (hb := by decide) h12) (Dgcnn.Below.finite (hb := by decide) h13) (Dgcnn.Below.finite (hb := by decide) h14)
    (Dgcnn.Below.finite (hb := by decide) h15) (Dgcnn.Below.finite (hb := by decide) h16)⟩

end

/-- The reference's result array, where the arguments hold real numbers. -/
theorem reference_eq (V0 : Valuation Cert.ReferenceIdeal.τ Cert.ReferenceIdeal.sig (Elt Ideal)) {P : Dgcnn.Params} {xr : Fin 32 → Fin 512 → Fin 8 → ℝ}
    (H : Dgcnn.Inputs P xr
      (V0 (Proc.devRef .tc Cert.ReferenceIdeal.main_arg0))
      (V0 (Proc.devRef .tc Cert.ReferenceIdeal.main_arg2))
      (V0 (Proc.devRef .tc Cert.ReferenceIdeal.main_arg3))
      (V0 (Proc.devRef .tc Cert.ReferenceIdeal.main_arg4))
      (V0 (Proc.devRef .tc Cert.ReferenceIdeal.main_arg5))
      (V0 (Proc.devRef .tc Cert.ReferenceIdeal.main_arg6))
      (V0 (Proc.devRef .tc Cert.ReferenceIdeal.main_arg7))
      (V0 (Proc.devRef .tc Cert.ReferenceIdeal.main_arg8))
      (V0 (Proc.devRef .tc Cert.ReferenceIdeal.main_arg9))
      (V0 (Proc.devRef .tc Cert.ReferenceIdeal.main_arg10))
      (V0 (Proc.devRef .tc Cert.ReferenceIdeal.main_arg11))
      (V0 (Proc.devRef .tc Cert.ReferenceIdeal.main_arg12))
      (V0 (Proc.devRef .tc Cert.ReferenceIdeal.main_arg13))
      (V0 (Proc.devRef .tc Cert.ReferenceIdeal.main_arg14))
      (V0 (Proc.devRef .tc Cert.ReferenceIdeal.main_arg15))
      (V0 (Proc.devRef .tc Cert.ReferenceIdeal.main_arg16))
      (V0 (Proc.devRef .tc Cert.ReferenceIdeal.main_arg17))) :
    Cert.ReferenceIdeal.Value.val3 V0 (Proc.devRef .tc Cert.ReferenceIdeal.main_v142) = Dgcnn.result P xr :=
  (Dgcnn.v142_eq V0).trans (Dgcnn.netR_eq H)

theorem algebraic [Cert.Pre_finite_inputs.Facts] : Cert.algebraic_KernelIdeal_ReferenceIdeal_pre_finite_inputs := by
  intro m g m' g' hpre hargs
  choose P xr H using inputs hpre
  refine ⟨fun c => Dgcnn.result (P c) (xr c), fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.Value.run_blocks (F := Ideal) m g)
    obtain ⟨e, k⟩ := h c
    exact ⟨e.trans (Dgcnn.array_eq (H c)), k.2.1, k⟩
  · refine (θ_run Cert.ReferenceIdeal.defs _ _).mono (fun r h c => ?_) (Cert.ReferenceIdeal.Value.run (F := Ideal) m' g')
    obtain ⟨e, _, k⟩ := h c
    obtain ⟨a0, a1, a2, a3, a4, a5, a6, a7, a8, a9, a10, a11, a12, a13, a14, a15, a16, a17⟩ := hargs c
    refine ⟨e.trans ((Cert.ReferenceIdeal.Value.val3_main_v142 _).symm.trans (reference_eq _ ?_)), k.2.1.trans a1, k⟩
    have Hc := H c
    rw [← a0, ← a2, ← a3, ← a4, ← a5, ← a6, ← a7, ← a8, ← a9, ← a10, ← a11, ← a12, ← a13, ← a14, ← a15, ← a16, ← a17] at Hc
    exact Hc

theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    frame_reference,
    fun m g _ => frame_reference m g trivial,
    IdealRules.named_const.statement Cert.KernelIdeal.κ "mask" .f32 0x7149F2CA#32 ⊤ rfl,
    haveI := preFacts
    algebraic⟩

end Cert.Proof

end
